-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_graph [hPre_graph : Cert.Pre_graph.Facts] (m : (ℓ : Loc Cert.KernelIdeal.nD Cert.KernelIdeal.τ Cert.KernelIdeal.sig) → Buf (Elt Ideal) ℓ) : Prop :=
  ∀ c : Dev Cert.KernelIdeal.nD,
    (Cert.Pre_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_graph [hPre_graph : Cert.Pre_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_graph [hKernelIdeal : Cert.KernelIdeal.Facts] [hPre_graph : Cert.Pre_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_graph [hReferenceIdeal : Cert.ReferenceIdeal.Facts] [hPre_graph : Cert.Pre_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_graph [hKernelIdeal : Cert.KernelIdeal.Facts] [hReferenceIdeal : Cert.ReferenceIdeal.Facts] [hPre_graph : Cert.Pre_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_graph : Cert.Pre_graph.Facts),
    quiescent_Kernel (hKernel := hKernel)
    ∧ quiescent_KernelIdeal (hKernelIdeal := hKernelIdeal)
    ∧ quiescent_KernelIdeal_pre_graph (hKernelIdeal := hKernelIdeal) (hPre_graph := hPre_graph)
    ∧ quiescent_ReferenceIdeal (hReferenceIdeal := hReferenceIdeal)
    ∧ quiescent_ReferenceIdeal_pre_graph (hReferenceIdeal := hReferenceIdeal) (hPre_graph := hPre_graph)
    ∧ preserves_Kernel_KernelIdeal
    ∧ algebraic_KernelIdeal_ReferenceIdeal_pre_graph (hKernelIdeal := hKernelIdeal) (hReferenceIdeal := hReferenceIdeal) (hPre_graph := hPre_graph)
-- ==== Pre_graph.lean ====
abbrev S10000x128 : Shape := ⟨2, ![10000, 128]⟩
abbrev S10000x10000 : Shape := ⟨2, ![10000, 10000]⟩
abbrev S128x64 : Shape := ⟨2, ![128, 64]⟩
abbrev S128x1 : Shape := ⟨2, ![128, 1]⟩
abbrev S64x32 : Shape := ⟨2, ![64, 32]⟩
abbrev S64x1 : Shape := ⟨2, ![64, 1]⟩
abbrev S_ : Shape := ⟨0, ![]⟩
abbrev S10000 : Shape := ⟨1, ![10000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128x1 : S_.BroadcastsInDim S128x1 (![] : Fin 0 → Fin S128x1.rank)
  reducesTo_S128x1_S_d0_1 : S128x1.ReducesTo [0, 1] S_
  bcast_S_S64x32 : S_.BroadcastsInDim S64x32 (![] : Fin 0 → Fin S64x32.rank)
  reducesTo_S64x32_S_d0_1 : S64x32.ReducesTo [0, 1] S_
  bcast_S_S64x1 : S_.BroadcastsInDim S64x1 (![] : Fin 0 → Fin S64x1.rank)
  reducesTo_S64x1_S_d0_1 : S64x1.ReducesTo [0, 1] S_
  bcast_S_S10000x10000 : S_.BroadcastsInDim S10000x10000 (![] : Fin 0 → Fin S10000x10000.rank)
  reducesTo_S10000x10000_S_d0_1 : S10000x10000.ReducesTo [0, 1] S_
  reducesTo_S10000x10000_S10000_d1 : S10000x10000.ReducesTo [1] S10000
  reducesTo_S10000_S_d0 : S10000.ReducesTo [0] S_

variable [Facts]

def fn_part2 {F : FTy → Type} [FloatOps F] (main_arg1 : FVec F S10000x10000 .f32) (main_v3 : IVec S_ 1) (main_v7 : IVec S_ 1) (main_v11 : IVec S_ 1) (main_v15 : IVec S_ 1) (main_v19 : IVec S_ 1) (main_v23 : IVec S_ 1) (main_v27 : IVec S_ 1) (main_v29 : IVec S10000x10000 1) (main_v31 : IVec S10000x10000 1) : IVec S_ 1 :=
  let main_v32 : IVec S10000x10000 1 := ori main_v29 main_v31
  let main_c_14 : IVec S_ 1 := constantI S_ 1 1#1
  let main_v33 : IVec S_ 1 := (fun x v => Host.reduce IntOp.andi x v reducesTo_S10000x10000_S_d0_1 h_S_) main_v32 main_c_14
  let main_cst_15 : FVec F S_ .f32 := constant S_ .f32 0x3F800000#32
  let main_v34 : FVec F S10000x10000 .f32 := broadcastInDim S10000x10000 ![] bcast_S_S10000x10000 main_cst_15
  let main_v35 : IVec S10000x10000 1 := cmpf .oeq main_arg1 main_v34
  let main_c_16 : IVec S_ 1 := constantI S_ 1 0#1
  let main_v36 : IVec S10000 1 := (fun x v => Host.reduce IntOp.ori x v reducesTo_S10000x10000_S10000_d1 h_S_) main_v35 main_c_16
  let main_c_17 : IVec S_ 1 := constantI S_ 1 1#1
  let main_v37 : IVec S_ 1 := (fun x v => Host.reduce IntOp.andi x v reducesTo_S10000_S_d0 h_S_) main_v36 main_c_17
  let main_v38 : IVec S_ 1 := andi main_v3 main_v7
  let main_v39 : IVec S_ 1 := andi main_v38 main_v11
  let main_v40 : IVec S_ 1 := andi main_v39 main_v15
  let main_v41 : IVec S_ 1 := andi main_v40 main_v19
  let main_v42 : IVec S_ 1 := andi main_v41 main_v23
  let main_v43 : IVec S_ 1 := andi main_v42 main_v27
  let main_v44 : IVec S_ 1 := andi main_v43 main_v33
  let main_v45 : IVec S_ 1 := andi main_v44 main_v37
  main_v45

def fn_part1 {F : FTy → Type} [FloatOps F] (main_arg1 : FVec F S10000x10000 .f32) (main_arg5 : FVec F S64x1 .f32) (main_arg6 : FVec F S64x32 .f32) (main_arg7 : FVec F S64x1 .f32) (main_v3 : IVec S_ 1) (main_v7 : IVec S_ 1) (main_v11 : IVec S_ 1) (main_v15 : IVec S_ 1) : IVec S_ 1 :=
  let main_v16 : FVec F S64x1 .f32 := Host.absf main_arg5
  let main_cst_6 : FVec F S_ .f32 := constant S_ .f32 0x7F800000#32
  let main_v17 : FVec F S64x1 .f32 := broadcastInDim S64x1 ![] bcast_S_S64x1 main_cst_6
  let main_v18 : IVec S64x1 1 := cmpf .olt main_v16 main_v17
  let main_c_7 : IVec S_ 1 := constantI S_ 1 1#1
  let main_v19 : IVec S_ 1 := (fun x v => Host.reduce IntOp.andi x v reducesTo_S64x1_S_d0_1 h_S_) main_v18 main_c_7
  let main_v20 : FVec F S64x32 .f32 := Host.absf main_arg6
  let main_cst_8 : FVec F S_ .f32 := constant S_ .f32 0x7F800000#32
  let main_v21 : FVec F S64x32 .f32 := broadcastInDim S64x32 ![] bcast_S_S64x32 main_cst_8
  let main_v22 : IVec S64x32 1 := cmpf .olt main_v20 main_v21
  let main_c_9 : IVec S_ 1 := constantI S_ 1 1#1
  let main_v23 : IVec S_ 1 := (fun x v => Host.reduce IntOp.andi x v reducesTo_S64x32_S_d0_1 h_S_) main_v22 main_c_9
  let main_v24 : FVec F S64x1 .f32 := Host.absf main_arg7
  let main_cst_10 : FVec F S_ .f32 := constant S_ .f32 0x7F800000#32
  let main_v25 : FVec F S64x1 .f32 := broadcastInDim S64x1 ![] bcast_S_S64x1 main_cst_10
  let main_v26 : IVec S64x1 1 := cmpf .olt main_v24 main_v25
  let main_c_11 : IVec S_ 1 := constantI S_ 1 1#1
  let main_v27 : IVec S_ 1 := (fun x v => Host.reduce IntOp.andi x v reducesTo_S64x1_S_d0_1 h_S_) main_v26 main_c_11
  let main_cst_12 : FVec F S_ .f32 := constant S_ .f32 0x00000000#32
  let main_v28 : FVec F S10000x10000 .f32 := broadcastInDim S10000x10000 ![] bcast_S_S10000x10000 main_cst_12
  let main_v29 : IVec S10000x10000 1 := cmpf .oeq main_arg1 main_v28
  let main_cst_13 : FVec F S_ .f32 := constant S_ .f32 0x3F800000#32
  let main_v30 : FVec F S10000x10000 .f32 := broadcastInDim S10000x10000 ![] bcast_S_S10000x10000 main_cst_13
  let main_v31 : IVec S10000x10000 1 := cmpf .oeq main_arg1 main_v30
  fn_part2 (F := F) main_arg1 main_v3 main_v7 main_v11 main_v15 main_v19 main_v23 main_v27 main_v29 main_v31

def fn {F : FTy → Type} [FloatOps F] (main_arg0 : FVec F S10000x128 .f32) (main_arg1 : FVec F S10000x10000 .f32) (main_arg2 : FVec F S128x64 .f32) (main_arg3 : FVec F S128x1 .f32) (main_arg4 : FVec F S64x32 .f32) (main_arg5 : FVec F S64x1 .f32) (main_arg6 : FVec F S64x32 .f32) (main_arg7 : FVec F S64x1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : FVec F S128x1 .f32 := Host.absf main_arg3
  let main_cst_2 : FVec F S_ .f32 := constant S_ .f32 0x7F800000#32
  let main_v9 : FVec F S128x1 .f32 := broadcastInDim S128x1 ![] bcast_S_S128x1 main_cst_2
  let main_v10 : IVec S128x1 1 := cmpf .olt main_v8 main_v9
  let main_c_3 : IVec S_ 1 := constantI S_ 1 1#1
  let main_v11 : IVec S_ 1 := (fun x v => Host.reduce IntOp.andi x v reducesTo_S128x1_S_d0_1 h_S_) main_v10 main_c_3
  let main_v12 : FVec F S64x32 .f32 := Host.absf main_arg4
  let main_cst_4 : FVec F S_ .f32 := constant S_ .f32 0x7F800000#32
  let main_v13 : FVec F S64x32 .f32 := broadcastInDim S64x32 ![] bcast_S_S64x32 main_cst_4
  let main_v14 : IVec S64x32 1 := cmpf .olt main_v12 main_v13
  let main_c_5 : IVec S_ 1 := constantI S_ 1 1#1
  let main_v15 : IVec S_ 1 := (fun x v => Host.reduce IntOp.andi x v reducesTo_S64x32_S_d0_1 h_S_) main_v14 main_c_5
  fn_part1 (F := F) main_arg1 main_arg5 main_arg6 main_arg7 main_v3 main_v7 main_v11 main_v15
-- ==== Kernel.lean ====
abbrev S10000x128 : Shape := ⟨2, ![10000, 128]⟩
abbrev S10000x10000 : Shape := ⟨2, ![10000, 10000]⟩
abbrev S128x64 : Shape := ⟨2, ![128, 64]⟩
abbrev S128x1 : Shape := ⟨2, ![128, 1]⟩
abbrev S64x32 : Shape := ⟨2, ![64, 32]⟩
abbrev S64x1 : Shape := ⟨2, ![64, 1]⟩
abbrev S64x2 : Shape := ⟨2, ![64, 2]⟩
abbrev S32x1 : Shape := ⟨2, ![32, 1]⟩
abbrev S32x2 : Shape := ⟨2, ![32, 2]⟩
abbrev S10000x64 : Shape := ⟨2, ![10000, 64]⟩
abbrev S10000x2 : Shape := ⟨2, ![10000, 2]⟩
abbrev S1x1 : Shape := ⟨2, ![1, 1]⟩
abbrev S10000x1 : Shape := ⟨2, ![10000, 1]⟩
abbrev S10000 : Shape := ⟨1, ![10000]⟩
abbrev S1x10000 : Shape := ⟨2, ![1, 10000]⟩
abbrev S1 : Shape := ⟨1, ![1]⟩
abbrev S_ : Shape := ⟨0, ![]⟩
abbrev S10000x65 : Shape := ⟨2, ![10000, 65]⟩
abbrev S400x10000 : Shape := ⟨2, ![400, 10000]⟩
abbrev S400x1 : Shape := ⟨2, ![400, 1]⟩
abbrev S400x64 : Shape := ⟨2, ![400, 64]⟩
abbrev S400x65 : Shape := ⟨2, ![400, 65]⟩
abbrev S10000x32 : Shape := ⟨2, ![10000, 32]⟩
abbrev S10000x33 : Shape := ⟨2, ![10000, 33]⟩
abbrev S400x32 : Shape := ⟨2, ![400, 32]⟩
abbrev S400x33 : Shape := ⟨2, ![400, 33]⟩

abbrev nBuf : Space → Nat
  | .hbm => 43
  | .vmem => 42
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S128x1, .f32⟩
  | .hbm, ⟨4, _⟩ => ⟨S64x32, .f32⟩
  | .hbm, ⟨5, _⟩ => ⟨S64x1, .f32⟩
  | .hbm, ⟨6, _⟩ => ⟨S64x32, .f32⟩
  | .hbm, ⟨7, _⟩ => ⟨S64x1, .f32⟩
  | .hbm, ⟨8, _⟩ => ⟨S64x1, .f32⟩
  | .hbm, ⟨9, _⟩ => ⟨S64x1, .f32⟩
  | .hbm, ⟨10, _⟩ => ⟨S64x2, .f32⟩
  | .hbm, ⟨11, _⟩ => ⟨S32x1, .f32⟩
  | .hbm, ⟨12, _⟩ => ⟨S32x1, .f32⟩
  | .hbm, ⟨13, _⟩ => ⟨S32x2, .f32⟩
  | .hbm, ⟨14, _⟩ => ⟨S32x1, .f32⟩
  | .hbm, ⟨15, _⟩ => ⟨S32x1, .f32⟩
  | .hbm, ⟨16, _⟩ => ⟨S32x2, .f32⟩
  | .hbm, ⟨17, _⟩ => ⟨S10000x64, .f32⟩
  | .hbm, ⟨18, _⟩ => ⟨S10000x2, .f32⟩
  | .hbm, ⟨19, _⟩ => ⟨S1x1, .f32⟩
  | .hbm, ⟨20, _⟩ => ⟨S10000x1, .f32⟩
  | .hbm, ⟨21, _⟩ => ⟨S10000x1, .f32⟩
  | .hbm, ⟨22, _⟩ => ⟨S1x10000, .f32⟩
  | .hbm, ⟨23, _⟩ => ⟨S_, .f32⟩
  | .hbm, ⟨24, _⟩ => ⟨S10000x1, .f32⟩
  | .hbm, ⟨25, _⟩ => ⟨S10000x65, .f32⟩
  | .hbm, ⟨26, _⟩ => ⟨S10000x64, .f32⟩
  | .hbm, ⟨27, _⟩ => ⟨S10000x32, .f32⟩
  | .hbm, ⟨28, _⟩ => ⟨S10000x2, .f32⟩
  | .hbm, ⟨29, _⟩ => ⟨S1x1, .f32⟩
  | .hbm, ⟨30, _⟩ => ⟨S10000x32, .f32⟩
  | .hbm, ⟨31, _⟩ => ⟨S10000x2, .f32⟩
  | .hbm, ⟨32, _⟩ => ⟨S1x1, .f32⟩
  | .hbm, ⟨33, _⟩ => ⟨S10000x33, .f32⟩
  | .hbm, ⟨34, _⟩ => ⟨S10000x33, .f32⟩
  | .hbm, ⟨35, _⟩ => ⟨S10000x1, .f32⟩
  | .hbm, ⟨36, _⟩ => ⟨S10000x1, .f32⟩
  | .hbm, ⟨37, _⟩ => ⟨S1x10000, .f32⟩
  | .hbm, ⟨38, _⟩ => ⟨S10000x1, .f32⟩
  | .hbm, ⟨39, _⟩ => ⟨S10000x1, .f32⟩
  | .hbm, ⟨40, _⟩ => ⟨S1x10000, .f32⟩
  | .hbm, ⟨41, _⟩ => ⟨S10000x32, .f32⟩
  | .hbm, ⟨42, _⟩ => ⟨S10000x32, .f32⟩
  | .local _ .vmem, ⟨0, _⟩ => ⟨S10000x128, .f32⟩
  | .local _ .vmem, ⟨1, _⟩ => ⟨S128x64, .f32⟩
  | .local _ .vmem, ⟨2, _⟩ => ⟨S64x2, .f32⟩
  | .local _ .vmem, ⟨3, _⟩ => ⟨S10000x64, .f32⟩
  | .local _ .vmem, ⟨4, _⟩ => ⟨S10000x2, .f32⟩
  | .local _ .vmem, ⟨5, _⟩ => ⟨S1x1, .f32⟩
  | .local _ .vmem, ⟨6, _⟩ => ⟨S400x10000, .f32⟩
  | .local _ .vmem, ⟨7, _⟩ => ⟨S400x10000, .f32⟩
  | .local _ .vmem, ⟨8, _⟩ => ⟨S400x1, .f32⟩
  | .local _ .vmem, ⟨9, _⟩ => ⟨S400x1, .f32⟩
  | .local _ .vmem, ⟨10, _⟩ => ⟨S1x10000, .f32⟩
  | .local _ .vmem, ⟨11, _⟩ => ⟨S1x1, .f32⟩
  | .local _ .vmem, ⟨12, _⟩ => ⟨S10000x65, .f32⟩
  | .local _ .vmem, ⟨13, _⟩ => ⟨S400x64, .f32⟩
  | .local _ .vmem, ⟨14, _⟩ => ⟨S400x64, .f32⟩
  | .local _ .vmem, ⟨15, _⟩ => ⟨S10000x64, .f32⟩
  | .local _ .vmem, ⟨16, _⟩ => ⟨S64x32, .f32⟩
  | .local _ .vmem, ⟨17, _⟩ => ⟨S32x2, .f32⟩
  | .local _ .vmem, ⟨18, _⟩ => ⟨S64x32, .f32⟩
  | .local _ .vmem, ⟨19, _⟩ => ⟨S32x2, .f32⟩
  | .local _ .vmem, ⟨20, _⟩ => ⟨S10000x32, .f32⟩
  | .local _ .vmem, ⟨21, _⟩ => ⟨S10000x2, .f32⟩
  | .local _ .vmem, ⟨22, _⟩ => ⟨S1x1, .f32⟩
  | .local _ .vmem, ⟨23, _⟩ => ⟨S10000x32, .f32⟩
  | .local _ .vmem, ⟨24, _⟩ => ⟨S10000x2, .f32⟩
  | .local _ .vmem, ⟨25, _⟩ => ⟨S1x1, .f32⟩
  | .local _ .vmem, ⟨26, _⟩ => ⟨S400x10000, .f32⟩
  | .local _ .vmem, ⟨27, _⟩ => ⟨S400x10000, .f32⟩
  | .local _ .vmem, ⟨28, _⟩ => ⟨S400x1, .f32⟩
  | .local _ .vmem, ⟨29, _⟩ => ⟨S400x1, .f32⟩
  | .local _ .vmem, ⟨30, _⟩ => ⟨S1x10000, .f32⟩
  | .local _ .vmem, ⟨31, _⟩ => ⟨S1x1, .f32⟩
  | .local _ .vmem, ⟨32, _⟩ => ⟨S10000x33, .f32⟩
  | .local _ .vmem, ⟨33, _⟩ => ⟨S400x1, .f32⟩
  | .local _ .vmem, ⟨34, _⟩ => ⟨S400x1, .f32⟩
  | .local _ .vmem, ⟨35, _⟩ => ⟨S1x10000, .f32⟩
  | .local _ .vmem, ⟨36, _⟩ => ⟨S1x1, .f32⟩
  | .local _ .vmem, ⟨37, _⟩ => ⟨S10000x33, .f32⟩
  | .local _ .vmem, ⟨38, _⟩ => ⟨S400x32, .f32⟩
  | .local _ .vmem, ⟨39, _⟩ => ⟨S400x32, .f32⟩
  | .local _ .vmem, ⟨40, _⟩ => ⟨S400x32, .f32⟩
  | .local _ .vmem, ⟨41, _⟩ => ⟨S400x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev main_v16_4 : Ref sig .tc := ⟨.hbm, 31, rfl⟩
abbrev main_v16_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg10_0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg8_0 : Ref sig .tc := ⟨.vmem, 37, rfl⟩
abbrev cc3_stg9_0 : Ref sig .tc := ⟨.vmem, 38, rfl⟩
abbrev cc3_stg9_1 : Ref sig .tc := ⟨.vmem, 39, rfl⟩
abbrev cc3_stg10_0 : Ref sig .tc := ⟨.vmem, 40, rfl⟩
abbrev cc3_stg10_1 : Ref sig .tc := ⟨.vmem, 41, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem10_0 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34
abbrev cc3_sem6_0 : DmaSem sig := 35
abbrev cc3_sem7_0 : DmaSem sig := 36
abbrev cc3_sem8_0 : DmaSem sig := 37
abbrev cc3_sem9_0 : DmaSem sig := 38
abbrev cc3_sem9_1 : DmaSem sig := 39
abbrev cc3_sem10_0 : DmaSem sig := 40
abbrev cc3_sem10_1 : DmaSem sig := 41

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10000x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x10000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S10000x65 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := .none

abbrev stage2_0 : Fin 1 → Memref sig .tc .vmem S10000x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S32x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S64x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S32x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S10000x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S10000x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S10000x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S10000x2 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S400x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x10000 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S10000x33 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S400x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x10000 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S10000x33 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S400x32 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S400x32 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S128x1 : Shape := ⟨2, ![128, 1]⟩
abbrev S64x32 : Shape := ⟨2, ![64, 32]⟩
abbrev S64x1 : Shape := ⟨2, ![64, 1]⟩
abbrev S10000x64 : Shape := ⟨2, ![10000, 64]⟩
abbrev S10000x1 : Shape := ⟨2, ![10000, 1]⟩
abbrev S1x10000 : Shape := ⟨2, ![1, 10000]⟩
abbrev S_ : Shape := ⟨0, ![]⟩
abbrev S10000 : Shape := ⟨1, ![10000]⟩
abbrev S10000x32 : Shape := ⟨2, ![10000, 32]⟩
abbrev S32x1 : Shape := ⟨2, ![32, 1]⟩

abbrev nBuf : Space → Nat
  | .hbm => 126
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S128x1, .f32⟩
  | .hbm, ⟨4, _⟩ => ⟨S64x32, .f32⟩
  | .hbm, ⟨5, _⟩ => ⟨S64x1, .f32⟩
  | .hbm, ⟨6, _⟩ => ⟨S64x32, .f32⟩
  | .hbm, ⟨7, _⟩ => ⟨S64x1, .f32⟩
  | .hbm, ⟨8, _⟩ => ⟨S10000x64, .f32⟩
  | .hbm, ⟨9, _⟩ => ⟨S64x1, .f32⟩
  | .hbm, ⟨10, _⟩ => ⟨S10000x1, .f32⟩
  | .hbm, ⟨11, _⟩ => ⟨S64x1, .f32⟩
  | .hbm, ⟨12, _⟩ => ⟨S10000x1, .f32⟩
  | .hbm, ⟨13, _⟩ => ⟨S1x10000, .f32⟩
  | .hbm, ⟨14, _⟩ => ⟨S10000x10000, .f32⟩
  | .hbm, ⟨15, _⟩ => ⟨S10000x10000, .f32⟩
  | .hbm, ⟨16, _⟩ => ⟨S10000x10000, .f32⟩
  | .hbm, ⟨17, _⟩ => ⟨S_, .f32⟩
  | .hbm, ⟨18, _⟩ => ⟨S_, .f32⟩
  | .hbm, ⟨19, _⟩ => ⟨S10000x10000, .f32⟩
  | .hbm, ⟨20, _⟩ => ⟨S10000x10000, .i1⟩
  | .hbm, ⟨21, _⟩ => ⟨S_, .f32⟩
  | .hbm, ⟨22, _⟩ => ⟨S10000x10000, .f32⟩
  | .hbm, ⟨23, _⟩ => ⟨S10000x10000, .f32⟩
  | .hbm, ⟨24, _⟩ => ⟨S10000x10000, .f32⟩
  | .hbm, ⟨25, _⟩ => ⟨S_, .f32⟩
  | .hbm, ⟨26, _⟩ => ⟨S10000x10000, .f32⟩
  | .hbm, ⟨27, _⟩ => ⟨S10000x10000, .i1⟩
  | .hbm, ⟨28, _⟩ => ⟨S_, .f32⟩
  | .hbm, ⟨29, _⟩ => ⟨S10000x10000, .f32⟩
  | .hbm, ⟨30, _⟩ => ⟨S10000x10000, .f32⟩
  | .hbm, ⟨31, _⟩ => ⟨S_, .f32⟩
  | .hbm, ⟨32, _⟩ => ⟨S10000, .f32⟩
  | .hbm, ⟨33, _⟩ => ⟨S_, .f32⟩
  | .hbm, ⟨34, _⟩ => ⟨S10000, .f32⟩
  | .hbm, ⟨35, _⟩ => ⟨S10000, .f32⟩
  | .hbm, ⟨36, _⟩ => ⟨S10000x1, .f32⟩
  | .hbm, ⟨37, _⟩ => ⟨S10000x10000, .f32⟩
  | .hbm, ⟨38, _⟩ => ⟨S10000x10000, .f32⟩
  | .hbm, ⟨39, _⟩ => ⟨S10000x10000, .f32⟩
  | .hbm, ⟨40, _⟩ => ⟨S_, .f32⟩
  | .hbm, ⟨41, _⟩ => ⟨S10000, .f32⟩
  | .hbm, ⟨42, _⟩ => ⟨S10000x1, .f32⟩
  | .hbm, ⟨43, _⟩ => ⟨S10000x10000, .f32⟩
  | .hbm, ⟨44, _⟩ => ⟨S10000x10000, .f32⟩
  | .hbm, ⟨45, _⟩ => ⟨S10000x64, .f32⟩
  | .hbm, ⟨46, _⟩ => ⟨S_, .f32⟩
  | .hbm, ⟨47, _⟩ => ⟨S10000x64, .f32⟩
  | .hbm, ⟨48, _⟩ => ⟨S10000x64, .f32⟩
  | .hbm, ⟨49, _⟩ => ⟨S10000x32, .f32⟩
  | .hbm, ⟨50, _⟩ => ⟨S32x1, .f32⟩
  | .hbm, ⟨51, _⟩ => ⟨S10000x1, .f32⟩
  | .hbm, ⟨52, _⟩ => ⟨S32x1, .f32⟩
  | .hbm, ⟨53, _⟩ => ⟨S10000x1, .f32⟩
  | .hbm, ⟨54, _⟩ => ⟨S1x10000, .f32⟩
  | .hbm, ⟨55, _⟩ => ⟨S10000x10000, .f32⟩
  | .hbm, ⟨56, _⟩ => ⟨S10000x10000, .f32⟩
  | .hbm, ⟨57, _⟩ => ⟨S10000x10000, .f32⟩
  | .hbm, ⟨58, _⟩ => ⟨S_, .f32⟩
  | .hbm, ⟨59, _⟩ => ⟨S_, .f32⟩
  | .hbm, ⟨60, _⟩ => ⟨S10000x10000, .f32⟩
  | .hbm, ⟨61, _⟩ => ⟨S10000x10000, .i1⟩
  | .hbm, ⟨62, _⟩ => ⟨S_, .f32⟩
  | .hbm, ⟨63, _⟩ => ⟨S10000x10000, .f32⟩
  | .hbm, ⟨64, _⟩ => ⟨S10000x10000, .f32⟩
  | .hbm, ⟨65, _⟩ => ⟨S10000x10000, .f32⟩
  | .hbm, ⟨66, _⟩ => ⟨S_, .f32⟩
  | .hbm, ⟨67, _⟩ => ⟨S10000x10000, .f32⟩
  | .hbm, ⟨68, _⟩ => ⟨S10000x10000, .i1⟩
  | .hbm, ⟨69, _⟩ => ⟨S_, .f32⟩
  | .hbm, ⟨70, _⟩ => ⟨S10000x10000, .f32⟩
  | .hbm, ⟨71, _⟩ => ⟨S10000x10000, .f32⟩
  | .hbm, ⟨72, _⟩ => ⟨S_, .f32⟩
  | .hbm, ⟨73, _⟩ => ⟨S10000, .f32⟩
  | .hbm, ⟨74, _⟩ => ⟨S_, .f32⟩
  | .hbm, ⟨75, _⟩ => ⟨S10000, .f32⟩
  | .hbm, ⟨76, _⟩ => ⟨S10000, .f32⟩
  | .hbm, ⟨77, _⟩ => ⟨S10000x1, .f32⟩
  | .hbm, ⟨78, _⟩ => ⟨S10000x10000, .f32⟩
  | .hbm, ⟨79, _⟩ => ⟨S10000x10000, .f32⟩
  | .hbm, ⟨80, _⟩ => ⟨S10000x10000, .f32⟩
  | .hbm, ⟨81, _⟩ => ⟨S_, .f32⟩
  | .hbm, ⟨82, _⟩ => ⟨S10000, .f32⟩
  | .hbm, ⟨83, _⟩ => ⟨S10000x1, .f32⟩
  | .hbm, ⟨84, _⟩ => ⟨S10000x10000, .f32⟩
  | .hbm, ⟨85, _⟩ => ⟨S10000x10000, .f32⟩
  | .hbm, ⟨86, _⟩ => ⟨S10000x32, .f32⟩
  | .hbm, ⟨87, _⟩ => ⟨S10000x32, .f32⟩
  | .hbm, ⟨88, _⟩ => ⟨S32x1, .f32⟩
  | .hbm, ⟨89, _⟩ => ⟨S10000x1, .f32⟩
  | .hbm, ⟨90, _⟩ => ⟨S32x1, .f32⟩
  | .hbm, ⟨91, _⟩ => ⟨S10000x1, .f32⟩
  | .hbm, ⟨92, _⟩ => ⟨S1x10000, .f32⟩
  | .hbm, ⟨93, _⟩ => ⟨S10000x10000, .f32⟩
  | .hbm, ⟨94, _⟩ => ⟨S10000x10000, .f32⟩
  | .hbm, ⟨95, _⟩ => ⟨S10000x10000, .f32⟩
  | .hbm, ⟨96, _⟩ => ⟨S_, .f32⟩
  | .hbm, ⟨97, _⟩ => ⟨S_, .f32⟩
  | .hbm, ⟨98, _⟩ => ⟨S10000x10000, .f32⟩
  | .hbm, ⟨99, _⟩ => ⟨S10000x10000, .i1⟩
  | .hbm, ⟨100, _⟩ => ⟨S_, .f32⟩
  | .hbm, ⟨101, _⟩ => ⟨S10000x10000, .f32⟩
  | .hbm, ⟨102, _⟩ => ⟨S10000x10000, .f32⟩
  | .hbm, ⟨103, _⟩ => ⟨S10000x10000, .f32⟩
  | .hbm, ⟨104, _⟩ => ⟨S_, .f32⟩
  | .hbm, ⟨105, _⟩ => ⟨S10000x10000, .f32⟩
  | .hbm, ⟨106, _⟩ => ⟨S10000x10000, .i1⟩
  | .hbm, ⟨107, _⟩ => ⟨S_, .f32⟩
  | .hbm, ⟨108, _⟩ => ⟨S10000x10000, .f32⟩
  | .hbm, ⟨109, _⟩ => ⟨S10000x10000, .f32⟩
  | .hbm, ⟨110, _⟩ => ⟨S_, .f32⟩
  | .hbm, ⟨111, _⟩ => ⟨S10000, .f32⟩
  | .hbm, ⟨112, _⟩ => ⟨S_, .f32⟩
  | .hbm, ⟨113, _⟩ => ⟨S10000, .f32⟩
  | .hbm, ⟨114, _⟩ => ⟨S10000, .f32⟩
  | .hbm, ⟨115, _⟩ => ⟨S10000x1, .f32⟩
  | .hbm, ⟨116, _⟩ => ⟨S10000x10000, .f32⟩
  | .hbm, ⟨117, _⟩ => ⟨S10000x10000, .f32⟩
  | .hbm, ⟨118, _⟩ => ⟨S10000x10000, .f32⟩
  | .hbm, ⟨119, _⟩ => ⟨S_, .f32⟩
  | .hbm, ⟨120, _⟩ => ⟨S10000, .f32⟩
  | .hbm, ⟨121, _⟩ => ⟨S10000x1, .f32⟩
  | .hbm, ⟨122, _⟩ => ⟨S10000x10000, .f32⟩
  | .hbm, ⟨123, _⟩ => ⟨S10000x10000, .f32⟩
  | .hbm, ⟨124, _⟩ => ⟨S10000x32, .f32⟩
  | .hbm, ⟨125, _⟩ => ⟨S10000x32, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call2_cst : Ref sig .tc := ⟨.hbm, 46, rfl⟩
abbrev main_call2_v0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_call3_cst : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_v36 : Ref sig .tc := ⟨.hbm, 65, rfl⟩
abbrev main_cst_6 : Ref sig .tc := ⟨.hbm, 66, rfl⟩
abbrev main_v37 : Ref sig .tc := ⟨.hbm, 67, rfl⟩
abbrev main_v38 : Ref sig .tc := ⟨.hbm, 68, rfl⟩
abbrev main_cst_7 : Ref sig .tc := ⟨.hbm, 69, rfl⟩
abbrev main_v39 : Ref sig .tc := ⟨.hbm, 70, rfl⟩
abbrev main_v40 : Ref sig .tc := ⟨.hbm, 71, rfl⟩
abbrev main_cst_8 : Ref sig .tc := ⟨.hbm, 72, rfl⟩
abbrev main_v41 : Ref sig .tc := ⟨.hbm, 73, rfl⟩
abbrev main_cst_9 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_10 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_11 : Ref sig .tc := ⟨.hbm, 96, rfl⟩
abbrev main_call5_cst : Ref sig .tc := ⟨.hbm, 97, rfl⟩
abbrev main_call5_v0 : Ref sig .tc := ⟨.hbm, 98, rfl⟩
abbrev main_call5_v1 : Ref sig .tc := ⟨.hbm, 99, rfl⟩
abbrev main_call5_v2 : Ref sig .tc := ⟨.hbm, 100, rfl⟩
abbrev main_call5_v3 : Ref sig .tc := ⟨.hbm, 101, rfl⟩
abbrev main_call5_v4 : Ref sig .tc := ⟨.hbm, 102, rfl⟩
abbrev main_v62 : Ref sig .tc := ⟨.hbm, 103, rfl⟩
abbrev main_cst_12 : Ref sig .tc := ⟨.hbm, 104, rfl⟩
abbrev main_v63 : Ref sig .tc := ⟨.hbm, 105, rfl⟩
abbrev main_v64 : Ref sig .tc := ⟨.hbm, 106, rfl⟩
abbrev main_cst_13 : Ref sig .tc := ⟨.hbm, 107, rfl⟩
abbrev main_v65 : Ref sig .tc := ⟨.hbm, 108, rfl⟩
abbrev main_v66 : Ref sig .tc := ⟨.hbm, 109, rfl⟩
abbrev main_cst_14 : Ref sig .tc := ⟨.hbm, 110, rfl⟩
abbrev main_v67 : Ref sig .tc := ⟨.hbm, 111, rfl⟩
abbrev main_cst_15 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_cst_16 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩

abbrev nD : Nat := 1
abbrev τ : Topo := Topo.v7x

variable {F : FTy → Type} [FloatOps F]
-- ==== Proof.Frames.lean ====
/- The reference's frame: its run, with the counters added. -/
module

public import proofs.«01_k».proof.Proof.Gen.ReferenceIdeal
public import proofs.«01_k».proof.Proof.Gen.ReferenceIdeal.Run
public import Idealize.ShloMosaic.PureOps.Ideal
public import Idealize.ShloMosaic.Lib.Quiescent
public import Idealize.ShloMosaic.Lib.Claim

@[expose] public section

noncomputable section

namespace Cert.Proof

open Idealize.ShloMosaic Idealize.SL.Sem Cert.ReferenceIdeal

/-- The reference ends with its arguments unchanged and, having no semaphore, with every counter at zero. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_mono (Cert.ReferenceIdeal.Value.run m g) fun r h =>
    ⟨fun c => (h c).2.2, sem_eq_zero_of_no_sems (by decide) r.2⟩

end Cert.Proof

end
-- ==== Proof.KernelRun.lean ====
/- The kernel's run: what its two result arrays hold at the end. -/
module

public import proofs.«01_k».proof.Proof.Gen.KernelIdeal.Frame
public import Idealize.ShloMosaic.PureOps.Ideal

@[expose] public section

noncomputable section

namespace Cert.KernelIdeal.Value

open Idealize.ShloMosaic Idealize.ShloMosaic.TcCoe
open Idealize.SL Idealize.SL.BI Idealize.SL.RA Idealize.SL.Sem
open scoped Idealize.SL.BI
open Idealize.SL.BI.BIBase Idealize.SL.BI.Laws Idealize.SL.ProofMode Idealize.ShloMosaic.Rounds
open Cert.KernelIdeal Cert.KernelIdeal.Gen

set_option backward.isDefEq.respectTransparency.types false in
/-- Every run of the ideal kernel ends with its two results at the last boundary's contents and its arguments as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v25_0) = W7 m ρ c (Proc.devRef .tc main_v25_0)
      ∧ r.2.mem ((c.tc : Thread nD τ).loc main_v25_1) = W7 m ρ c (Proc.devRef .tc main_v25_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v25_0 (by decide)), h c _ (mem_uc main_v25_1 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Value

end
-- ==== Proof.Spec.lean ====
/- The two ways a graph-attention layer is written: the reference's softmax and the kernel's stabilised
   quotient, as formulas over extended reals. -/
module

public import Idealize.ShloMosaic.PureOps.Ideal

@[expose] public section

noncomputable section

namespace Cert.Gat

open Idealize.ShloMosaic
open scoped BigOperators

/-- The slope of the leaky rectifier below zero: the f32 nearest to 0.2. -/
def slope : EReal := Ideal.ofBits .f32 0x3E4CCCCD#32

/-- A matrix product at row `i` and column `k`. -/
def mm {a b c : ℕ} (X : Fin a → Fin b → EReal) (W : Fin b → Fin c → EReal) (i : Fin a) (k : Fin c) : EReal :=
  ∑ l, X i l * W l k

/-- A matrix times a vector at row `i`. -/
def mv {a b : ℕ} (X : Fin a → Fin b → EReal) (v : Fin b → EReal) (i : Fin a) : EReal :=
  ∑ l, X i l * v l

/-- The largest entry of a vector (`⊥` for an empty one). -/
def top {n : ℕ} (f : Fin n → EReal) : EReal := Finset.univ.fold max ⊥ f

/-! ## The reference's layer -/

/-- The leaky rectifier as the reference writes it, by cases on the sign. -/
def leaky (t : EReal) : EReal := if 0 ≤ t then t else slope * t

/-- The masked score of one edge: the rectified sum where there is an edge, `⊥` where there is none. -/
def score (adj f1 f2 : EReal) : EReal := if 0 < adj then leaky (f1 + f2) else ⊥

/-- The weight of neighbour `j` before it is divided: the exponential of its score less the row's largest score. -/
def weight {n : ℕ} (adj : Fin n → EReal) (f1 : EReal) (f2 : Fin n → EReal) (j : Fin n) : EReal :=
  Ideal.exp (score (adj j) f1 (f2 j) - top fun l => score (adj l) f1 (f2 l))

/-- One entry of the reference's layer: the softmax of the row's scores times a column of features. -/
def softRow {n : ℕ} (adj : Fin n → EReal) (f1 : EReal) (f2 wh : Fin n → EReal) : EReal :=
  ∑ j, Ideal.div (weight adj f1 f2 j) (∑ l, weight adj f1 f2 l) * wh j

/-- The reference's layer before its activation: features `X`, weights `W`, the attention vector's two halves. -/
def refLayer {n a d : ℕ} (adj : Fin n → Fin n → EReal) (X : Fin n → Fin a → EReal) (W : Fin a → Fin d → EReal)
    (u v : Fin d → EReal) (i : Fin n) (k : Fin d) : EReal :=
  softRow (adj i) (mv (mm X W) u i) (mv (mm X W) v) fun j => mm X W j k

/-! ## The kernel's layer -/

/-- The leaky rectifier as the kernel writes it, a maximum. -/
def leakyMax (t : EReal) : EReal := max t (slope * t)

/-- The kernel's weight of one neighbour: a row's stabiliser is taken off before the exponential, the adjacency
    multiplies after it. -/
def kWeight (adj f1 f2 m : EReal) : EReal :=
  Ideal.exp (max (f1 - leakyMax (f1 + m) + f2) (slope * f1 - leakyMax (f1 + m) + slope * f2)) * adj

/-- One entry of the kernel's layer: the weighted sum of a column `wh` over the weighted sum of a column `one`, which
    is replaced by one where it is zero. -/
def quotRow {n : ℕ} (adj : Fin n → EReal) (f1 : EReal) (f2 wh one : Fin n → EReal) (m : EReal) : EReal :=
  Ideal.div (∑ j, kWeight (adj j) f1 (f2 j) m * wh j)
    (if ∑ j, kWeight (adj j) f1 (f2 j) m * one j = 0 then 1 else ∑ j, kWeight (adj j) f1 (f2 j) m * one j)

/-- The kernel's layer before its activation. -/
def kerLayer {n a d : ℕ} (adj : Fin n → Fin n → EReal) (X : Fin n → Fin a → EReal) (W : Fin a → Fin d → EReal)
    (u v : Fin d → EReal) (i : Fin n) (k : Fin d) : EReal :=
  quotRow (adj i) (mv (mm X W) u i) (mv (mm X W) v) (fun j => mm X W j k) (fun _ => 1) (top (mv (mm X W) v))

/-- The rectifier between the layers, entry by entry. -/
def relu {n d : ℕ} (h : Fin n → Fin d → EReal) (i : Fin n) (k : Fin d) : EReal := max (h i k) 0

end Cert.Gat

end
-- ==== Proof.Attention.lean ====
/- The equation: on real entries the kernel's attention row is the reference's, and it is a real number. -/
module

public import proofs.«01_k».proof.Proof.Spec
public import Idealize.ShloMosaic.PureOps.Ideal.Laws

@[expose] public section

noncomputable section

namespace Cert.Gat

open Idealize.ShloMosaic

/-- The slope as a real number. -/
def slopeR : ℝ := 13421773 / 67108864

/-- The slope is this real number. -/
theorem slope_eq : slope = (slopeR : EReal) := by
  unfold slope slopeR
  simp [Ideal.ofBits, Ideal.ieee]
  norm_num [EReal.coe_div]
  rw [← div_eq_mul_inv]

/-- The slope is not negative. -/
theorem slopeR_nonneg : 0 ≤ slopeR := by unfold slopeR; norm_num

/-- The slope is at most one. -/
theorem slopeR_le_one : slopeR ≤ 1 := by unfold slopeR; norm_num

/-- A finite sum of real numbers is the same sum in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two real numbers is the same maximum in the extended reals. -/
theorem coe_max (a b : ℝ) : ((max a b : ℝ) : EReal) = max (a : EReal) b :=
  EReal.coe_strictMono.monotone.map_max

/-- Division of a real number by a real number that is not zero. -/
theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- The exponential of a real number. -/
theorem exp_coe (a : ℝ) : Ideal.exp (a : EReal) = ((Real.exp a : ℝ) : EReal) := rfl

/-- The pattern of minus infinity is `⊥`. -/
theorem negInf_eq : Ideal.ofBits .f32 0xFF800000#32 = ⊥ := by
  simp [Ideal.ofBits, Ideal.ieee]

/-- The leaky rectifier on real numbers. -/
def leakyR (t : ℝ) : ℝ := max t (slopeR * t)

/-- The rectifier written as a maximum, on a real number. -/
theorem leakyMax_coe (t : ℝ) : leakyMax (t : EReal) = (leakyR t : EReal) := by
  unfold leakyMax leakyR
  rw [slope_eq, coe_max, EReal.coe_mul]

/-- The rectifier written by cases, on a real number: the two ways of writing it agree. -/
theorem leaky_coe (t : ℝ) : leaky (t : EReal) = (leakyR t : EReal) := by
  unfold leaky leakyR
  have h0 := slopeR_nonneg
  have h1 := slopeR_le_one
  by_cases h : 0 ≤ t
  · rw [if_pos (by exact_mod_cast h), max_eq_left (by nlinarith)]
  · rw [if_neg (by exact_mod_cast h), max_eq_right (by nlinarith), slope_eq, EReal.coe_mul]

/-- The largest of finitely many extended reals that are not `⊤` is not `⊤`. -/
theorem top_ne_top {n : ℕ} (f : Fin n → EReal) (h : ∀ i, f i ≠ ⊤) : top f ≠ ⊤ := by
  unfold top
  have : Finset.univ.fold max ⊥ f < ⊤ := by
    rw [Finset.fold_max_lt]
    exact ⟨bot_lt_top, fun i _ => lt_of_le_of_ne le_top (h i)⟩
  exact this.ne

/-- Every entry is at most the largest. -/
theorem le_top_at {n : ℕ} (f : Fin n → EReal) (i : Fin n) : f i ≤ top f := by
  unfold top
  exact (Finset.le_fold_max _).2 (Or.inr ⟨i, Finset.mem_univ i, le_rfl⟩)

/-- The largest entry is real when no entry is `⊤` and one is real. -/
theorem top_real {n : ℕ} (f : Fin n → EReal) (h : ∀ i, f i ≠ ⊤) (i : Fin n) (hi : f i ≠ ⊥) :
    ∃ M : ℝ, top f = (M : EReal) := by
  have h2 : top f ≠ ⊥ := fun hb => hi (le_bot_iff.1 (hb ▸ le_top_at f i))
  exact ⟨(top f).toReal, (EReal.coe_toReal (top_ne_top f h) h2).symm⟩

section Row

variable {n : ℕ} (adj : Fin n → EReal) (a : ℝ) (b w : Fin n → ℝ)

open Classical in
/-- The unscaled weight of neighbour `j`: the exponential of its rectified score on an edge, zero elsewhere. -/
def base (j : Fin n) : ℝ := if adj j = 1 then Real.exp (leakyR (a + b j)) else 0

/-- An unscaled weight is not negative. -/
theorem base_nonneg (j : Fin n) : 0 ≤ base adj a b j := by
  unfold base; split
  · exact (Real.exp_pos _).le
  · exact le_rfl

/-- The unscaled weights of a row with an edge have a positive sum. -/
theorem base_sum_pos (h : ∃ j, adj j = 1) : 0 < ∑ j, base adj a b j := by
  obtain ⟨j, hj⟩ := h
  refine Finset.sum_pos' (fun i _ => base_nonneg adj a b i) ⟨j, Finset.mem_univ j, ?_⟩
  unfold base; rw [if_pos hj]; exact Real.exp_pos _

/-- The value of an attention row: the mean of a column under the unscaled weights. -/
def rowR : ℝ := (∑ j, base adj a b j * w j) / ∑ j, base adj a b j

/-- The mean does not see a common positive factor of the weights. -/
theorem rowR_scale (c : ℝ) (hc : c ≠ 0) :
    (∑ j, c * base adj a b j * w j) / (∑ j, c * base adj a b j) = rowR adj a b w := by
  unfold rowR
  rw [← Finset.mul_sum, show (∑ j, c * base adj a b j * w j) = c * ∑ j, base adj a b j * w j by
    rw [Finset.mul_sum]; exact Finset.sum_congr rfl fun j _ => by ring]
  exact mul_div_mul_left _ _ hc

variable (hadj : ∀ j, adj j = 0 ∨ adj j = 1)

include hadj in
/-- The kernel's weight is the unscaled weight times the exponential of minus the stabiliser. -/
theorem kWeight_coe (M : ℝ) (j : Fin n) :
    kWeight (adj j) a (b j) M = ((Real.exp (-leakyR (a + M)) * base adj a b j : ℝ) : EReal) := by
  unfold kWeight base
  rw [← EReal.coe_add, leakyMax_coe, slope_eq]
  simp only [← EReal.coe_mul, ← EReal.coe_sub, ← EReal.coe_add, ← coe_max, exp_coe]
  rcases hadj j with h | h
  · rw [h, if_neg (by simp), mul_zero, mul_zero]; rfl
  · rw [h, if_pos rfl, mul_one, ← Real.exp_add]
    congr 2
    unfold leakyR
    rw [← max_add_add_left]
    congr 1 <;> ring

include hadj in
/-- The kernel's row on real entries. -/
theorem quotRow_coe (h : ∃ j, adj j = 1) (M : ℝ) :
    quotRow adj a (fun j => (b j : EReal)) (fun j => (w j : EReal)) (fun _ => 1) M = (rowR adj a b w : EReal) := by
  unfold quotRow
  simp only [kWeight_coe adj a b hadj M, mul_one, ← EReal.coe_mul, ← coe_sum]
  have hp : 0 < ∑ j, Real.exp (-leakyR (a + M)) * base adj a b j := by
    rw [← Finset.mul_sum]; exact mul_pos (Real.exp_pos _) (base_sum_pos adj a b h)
  rw [if_neg (by exact_mod_cast hp.ne'), div_coe _ _ hp.ne', rowR_scale adj a b w _ (Real.exp_pos _).ne']

include hadj in
/-- The reference's weight is the unscaled weight times the exponential of minus the row's largest score. -/
theorem weight_coe (h : ∃ j, adj j = 1) : ∃ c : ℝ, c ≠ 0 ∧ ∀ j,
    weight adj a (fun j => (b j : EReal)) j = ((c * base adj a b j : ℝ) : EReal) := by
  have hs : ∀ j, score (adj j) a (b j) = if adj j = 1 then ((leakyR (a + b j) : ℝ) : EReal) else ⊥ := by
    intro j
    unfold score
    rcases hadj j with h | h
    · rw [h, if_neg (lt_irrefl _), if_neg (by simp)]
    · rw [h, if_pos (by simp), if_pos rfl, ← EReal.coe_add, leaky_coe]
  obtain ⟨j0, hj0⟩ := h
  obtain ⟨M, hM⟩ := top_real (fun l => score (adj l) a (b l : EReal))
    (fun i => by
      rw [hs]; split
      · exact EReal.coe_ne_top _
      · exact bot_ne_top) j0 (by rw [hs, if_pos hj0]; exact EReal.coe_ne_bot _)
  refine ⟨Real.exp (-M), (Real.exp_pos _).ne', fun j => ?_⟩
  unfold weight base
  rw [hM, hs]
  split
  · rw [← EReal.coe_sub, exp_coe, ← Real.exp_add]; congr 2; ring
  · rw [mul_zero, EReal.bot_sub]; rfl

include hadj in
/-- The reference's row on real entries. -/
theorem softRow_coe (h : ∃ j, adj j = 1) :
    softRow adj a (fun j => (b j : EReal)) (fun j => (w j : EReal)) = (rowR adj a b w : EReal) := by
  obtain ⟨c, hc, hw⟩ := weight_coe adj a b hadj h
  unfold softRow
  have hne : ∑ j, c * base adj a b j ≠ 0 := by
    rw [← Finset.mul_sum]; exact mul_ne_zero hc (base_sum_pos adj a b h).ne'
  simp only [hw, ← coe_sum, div_coe _ _ hne, ← EReal.coe_mul]
  rw [← rowR_scale adj a b w c hc, Finset.sum_div]
  congr 1
  exact Finset.sum_congr rfl fun j _ => by ring

end Row

/-! ## A whole layer -/

/-- A matrix with real entries. -/
def RealM {a b : ℕ} (X : Fin a → Fin b → EReal) : Prop := ∃ R : Fin a → Fin b → ℝ, X = fun i j => (R i j : EReal)

/-- A vector with real entries. -/
def RealV {a : ℕ} (v : Fin a → EReal) : Prop := ∃ R : Fin a → ℝ, v = fun i => (R i : EReal)

/-- A product of real matrices is real. -/
theorem RealM.mm {a b c : ℕ} {X : Fin a → Fin b → EReal} {W : Fin b → Fin c → EReal} (hX : RealM X) (hW : RealM W) :
    RealM (mm X W) := by
  obtain ⟨X, rfl⟩ := hX
  obtain ⟨W, rfl⟩ := hW
  refine ⟨fun i k => ∑ l, X i l * W l k, funext fun i => funext fun k => ?_⟩
  simp only [Gat.mm, ← EReal.coe_mul, ← coe_sum]

/-- A real matrix times a real vector is real. -/
theorem RealM.mv {a b : ℕ} {X : Fin a → Fin b → EReal} {v : Fin b → EReal} (hX : RealM X) (hv : RealV v) :
    RealV (mv X v) := by
  obtain ⟨X, rfl⟩ := hX
  obtain ⟨v, rfl⟩ := hv
  refine ⟨fun i => ∑ l, X i l * v l, funext fun i => ?_⟩
  simp only [Gat.mv, ← EReal.coe_mul, ← coe_sum]

/-- The rectifier keeps a matrix real. -/
theorem RealM.relu {a b : ℕ} {X : Fin a → Fin b → EReal} (hX : RealM X) : RealM (relu X) := by
  obtain ⟨X, rfl⟩ := hX
  refine ⟨fun i k => max (X i k) 0, funext fun i => funext fun k => ?_⟩
  simp only [Gat.relu, coe_max, EReal.coe_zero]

/-- An adjacency matrix: entries zero or one, and a neighbour in every row. -/
structure Graph {n : ℕ} (adj : Fin n → Fin n → EReal) : Prop where
  /-- Every entry is zero or one. -/
  binary : ∀ i j, adj i j = 0 ∨ adj i j = 1
  /-- Every row has an entry one. -/
  edge : ∀ i, ∃ j, adj i j = 1

/-- On a graph and real features the two layers are equal, and real. -/
theorem layer_eq {n a d : ℕ} {adj : Fin n → Fin n → EReal} (hg : Graph adj) {X : Fin n → Fin a → EReal} (hX : RealM X)
    {W : Fin a → Fin d → EReal} (hW : RealM W) {u v : Fin d → EReal} (hu : RealV u) (hv : RealV v) :
    kerLayer adj X W u v = refLayer adj X W u v ∧ RealM (refLayer adj X W u v) := by
  obtain ⟨P, hP⟩ := hX.mm hW
  obtain ⟨f, hf⟩ := (hX.mm hW).mv hu
  obtain ⟨g, hg2⟩ := (hX.mm hW).mv hv
  have hr : refLayer adj X W u v = fun i k => ((rowR (adj i) (f i) g (fun j => P j k) : ℝ) : EReal) := by
    funext i k
    unfold refLayer
    rw [hP] at hf hg2 ⊢
    rw [hf, hg2]
    exact softRow_coe (adj i) (f i) g (fun j => P j k) (hg.binary i) (hg.edge i)
  refine ⟨?_, _, hr⟩
  rw [hr]
  funext i k
  obtain ⟨j, -⟩ := hg.edge i
  unfold kerLayer
  rw [hP] at hf hg2 ⊢
  rw [hf, hg2]
  obtain ⟨M, hM⟩ := top_real (fun i => (g i : EReal)) (fun i => EReal.coe_ne_top _) j (EReal.coe_ne_bot _)
  rw [hM]
  exact quotRow_coe (adj i) (f i) g (fun j => P j k) (hg.binary i) (hg.edge i) M

end Cert.Gat

end
-- ==== Proof.Model.lean ====
/- The two programs' results as functions of the eight argument arrays, and their equality. -/
module

public import proofs.«01_k».proof.Proof.Attention
public import Idealize.ShloMosaic.Lib.Pointwise

@[expose] public section

noncomputable section

namespace Cert.Gat

open Idealize.ShloMosaic

/-- An array of two axes as a matrix. -/
def mat {a b : ℕ} (v : FVec Ideal ⟨2, ![a, b]⟩ .f32) (i : Fin a) (j : Fin b) : EReal := v (ix2 i j)

/-- The first `d` entries of a column: the part of an attention vector that meets a node's own features. -/
def upper {n : ℕ} (d : ℕ) (h : d + d ≤ n) (a : FVec Ideal ⟨2, ![n, 1]⟩ .f32) (k : Fin d) : EReal :=
  a (ix2 ⟨k.val, by omega⟩ 0)

/-- The next `d` entries of a column: the part of an attention vector that meets a neighbour's features. -/
def lower {n : ℕ} (d : ℕ) (h : d + d ≤ n) (a : FVec Ideal ⟨2, ![n, 1]⟩ .f32) (k : Fin d) : EReal :=
  a (ix2 ⟨d + k.val, by omega⟩ 0)

section

variable (x : FVec Ideal ⟨2, ![10000, 128]⟩ .f32) (adj : FVec Ideal ⟨2, ![10000, 10000]⟩ .f32)
  (W : FVec Ideal ⟨2, ![128, 64]⟩ .f32) (a : FVec Ideal ⟨2, ![128, 1]⟩ .f32)
  (W' : FVec Ideal ⟨2, ![64, 32]⟩ .f32) (a' : FVec Ideal ⟨2, ![64, 1]⟩ .f32)

/-- The hidden features as the kernel computes them. -/
def kerHidden : Fin 10000 → Fin 64 → EReal :=
  relu (kerLayer (mat adj) (mat x) (mat W) (upper 64 (by decide) a) (lower 64 (by decide) a))

/-- The hidden features as the reference computes them. -/
def refHidden : Fin 10000 → Fin 64 → EReal :=
  relu (refLayer (mat adj) (mat x) (mat W) (upper 64 (by decide) a) (lower 64 (by decide) a))

/-- A second layer as the kernel computes it. -/
def kerOut : Fin 10000 → Fin 32 → EReal :=
  kerLayer (mat adj) (kerHidden x adj W a) (mat W') (upper 32 (by decide) a') (lower 32 (by decide) a')

/-- A second layer as the reference computes it. -/
def refOut : Fin 10000 → Fin 32 → EReal :=
  refLayer (mat adj) (refHidden x adj W a) (mat W') (upper 32 (by decide) a') (lower 32 (by decide) a')

end

/-- Every entry of an array of two axes is a real number. -/
def RealA {a b : ℕ} (v : FVec Ideal ⟨2, ![a, b]⟩ .f32) : Prop := ∀ i j, mat v i j ≠ ⊥ ∧ mat v i j ≠ ⊤

/-- An array of real numbers is a real matrix. -/
theorem RealA.mat {a b : ℕ} {v : FVec Ideal ⟨2, ![a, b]⟩ .f32} (h : RealA v) : RealM (mat v) :=
  ⟨fun i j => (Gat.mat v i j).toReal,
    funext fun i => funext fun j => (EReal.coe_toReal (h i j).2 (h i j).1).symm⟩

/-- The first entries of a column of real numbers are a real vector. -/
theorem RealA.upper {n : ℕ} {a : FVec Ideal ⟨2, ![n, 1]⟩ .f32} (h : RealA a) (d : ℕ) (hd : d + d ≤ n) :
    RealV (upper d hd a) :=
  ⟨fun k => (Gat.upper d hd a k).toReal, funext fun k => (EReal.coe_toReal (h _ 0).2 (h _ 0).1).symm⟩

/-- The next entries of a column of real numbers are a real vector. -/
theorem RealA.lower {n : ℕ} {a : FVec Ideal ⟨2, ![n, 1]⟩ .f32} (h : RealA a) (d : ℕ) (hd : d + d ≤ n) :
    RealV (lower d hd a) :=
  ⟨fun k => (Gat.lower d hd a k).toReal, funext fun k => (EReal.coe_toReal (h _ 0).2 (h _ 0).1).symm⟩

/-- On a graph and real arguments the kernel's second layer is the reference's. -/
theorem out_eq {x : FVec Ideal ⟨2, ![10000, 128]⟩ .f32} {adj : FVec Ideal ⟨2, ![10000, 10000]⟩ .f32}
    {W : FVec Ideal ⟨2, ![128, 64]⟩ .f32} {a : FVec Ideal ⟨2, ![128, 1]⟩ .f32}
    {W' : FVec Ideal ⟨2, ![64, 32]⟩ .f32} {a' : FVec Ideal ⟨2, ![64, 1]⟩ .f32}
    (hg : Graph (mat adj)) (hx : RealA x) (hW : RealA W) (ha : RealA a) (hW' : RealA W') (ha' : RealA a') :
    kerOut x adj W a W' a' = refOut x adj W a W' a' := by
  obtain ⟨h1, h2⟩ := layer_eq hg hx.mat hW.mat (ha.upper 64 (by decide)) (ha.lower 64 (by decide))
  unfold kerOut refOut kerHidden refHidden
  rw [h1]
  exact (layer_eq hg h2.relu hW'.mat (ha'.upper 32 (by decide)) (ha'.lower 32 (by decide))).1

end Cert.Gat

end
-- ==== Proof.PreDecode.lean ====
/- What the precondition says of the eight argument arrays, entry by entry. -/
module

public import proofs.«01_k».proof.Proof.Gen.Pre_graph
public import proofs.«01_k».proof.Proof.Model
public import Idealize.ShloMosaic.Lib.ReduceAll
public import Idealize.ShloMosaic.Lib.Routing.OpsOrder
public import Idealize.ShloMosaic.Lib.Pointwise
public import Idealize.ShloMosaic.Lib.IdealHost

@[expose] public section

set_option maxRecDepth 16384

noncomputable section

namespace Cert.Pre_graph.Value

open Idealize.ShloMosaic Cert.Pre_graph Cert.Pre_graph.Gen Cert.Gat

/-- The scalar shape has one index. -/
instance : Subsingleton S_.Idx := ⟨fun a b => funext fun k => Fin.elim0 k⟩

/-- The pattern of infinity is `⊤`. -/
theorem posInf_eq : Ideal.ofBits .f32 0x7F800000#32 = ⊤ := by
  simp [Ideal.ofBits, Ideal.ieee]

/-- A word made of a truth value is 1 when the value is true. -/
theorem ofBool_one {b : Bool} (h : BitVec.ofBool b = 1#1) : b = true := by
  revert h; cases b <;> decide

/-- An extended real of absolute value below `⊤` is neither infinity. -/
theorem real_of_abs {x : Ideal .f32} (h : (FloatOps.absf x : Ideal .f32) < (⊤ : EReal)) :
    (x : EReal) ≠ ⊥ ∧ (x : EReal) ≠ ⊤ := by
  constructor <;> rintro rfl <;> revert h <;> simp [FloatOps.absf]

/-- An array whose absolute values were all found below infinity holds real numbers. -/
theorem real_of_all {a b : ℕ} {x : FVec Ideal ⟨2, ![a, b]⟩ .f32}
    {hb : S_.BroadcastsInDim ⟨2, ![a, b]⟩ (![] : Fin 0 → Fin 2)} {hr : Shape.ReducesTo ⟨2, ![a, b]⟩ [0, 1] S_}
    (e : Host.reduce IntOp.andi (cmpf .olt (Host.absf x) (broadcastInDim ⟨2, ![a, b]⟩ ![] hb
      (constant S_ .f32 0x7F800000#32))) (constantI S_ 1 1#1) hr h_S_ ix0 = 1#1) : RealA x := by
  intro i j
  have h := Host.reduce_andi_all _ _ _ _ _ e (ix2 i j)
  have h1 : (FloatOps.absf (x (ix2 i j)) : Ideal .f32) < Ideal.ofBits .f32 0x7F800000#32 :=
    of_decide_eq_true (ofBool_one h)
  rw [posInf_eq] at h1
  exact real_of_abs h1

/-- An adjacency matrix whose entries were all found zero or one, and each of whose rows was found to hold a one. -/
theorem graph_of_all {x : FVec Ideal S10000x10000 .f32}
    (e1 : Host.reduce IntOp.andi
      (ori (cmpf .oeq x (broadcastInDim S10000x10000 ![] bcast_S_S10000x10000 (constant S_ .f32 0x00000000#32)))
        (cmpf .oeq x (broadcastInDim S10000x10000 ![] bcast_S_S10000x10000 (constant S_ .f32 0x3F800000#32))))
      (constantI S_ 1 1#1) reducesTo_S10000x10000_S_d0_1 h_S_ ix0 = 1#1)
    (e2 : Host.reduce IntOp.andi (Host.reduce IntOp.ori
      (cmpf .oeq x (broadcastInDim S10000x10000 ![] bcast_S_S10000x10000 (constant S_ .f32 0x3F800000#32)))
      (constantI S_ 1 0#1) reducesTo_S10000x10000_S10000_d1 h_S_) (constantI S_ 1 1#1) reducesTo_S10000_S_d0 h_S_ ix0
        = 1#1) : Graph (mat x) where
  binary i j := by
    have h := Host.reduce_andi_all _ _ _ _ _ e1 (ix2 i j)
    rcases IntOp.ori_eq_one.1 h with h | h
    · left
      have h1 : x (ix2 i j) = Ideal.ofBits .f32 0x00000000#32 := of_decide_eq_true (ofBool_one h)
      rw [Ideal.ofBits_zero_f32] at h1
      exact h1
    · right
      have h1 : x (ix2 i j) = Ideal.ofBits .f32 0x3F800000#32 := of_decide_eq_true (ofBool_one h)
      rw [Ideal.ofBits_one_f32] at h1
      exact h1
  edge i := by
    have h := Host.reduce_andi_all _ _ _ _ _ e2 (ix1 i)
    have h1 : Finset.univ.fold IntOp.ori 0#1 (fun j => cmpf .oeq x (broadcastInDim S10000x10000 ![]
        bcast_S_S10000x10000 (constant S_ .f32 0x3F800000#32)) (ix2 i j)) = 1#1 := by
      rw [← h]
      pointwise
    obtain ⟨j, -, hj⟩ := (Routing.fold_ori _ _).1 h1
    refine ⟨j, ?_⟩
    have h2 : x (ix2 i j) = Ideal.ofBits .f32 0x3F800000#32 := of_decide_eq_true (ofBool_one hj)
    rw [Ideal.ofBits_one_f32] at h2
    exact h2

/-- Where the precondition holds, the adjacency matrix is a graph's and the other seven arguments are real. -/
theorem graph_real {x0 : FVec Ideal S10000x128 .f32} {x1 : FVec Ideal S10000x10000 .f32} {x2 : FVec Ideal S128x64 .f32}
    {x3 : FVec Ideal S128x1 .f32} {x4 : FVec Ideal S64x32 .f32} {x5 : FVec Ideal S64x1 .f32}
    {x6 : FVec Ideal S64x32 .f32} {x7 : FVec Ideal S64x1 .f32}
    (h : fn (F := Ideal) x0 x1 x2 x3 x4 x5 x6 x7 = fun _ => 1#1) :
    Graph (mat x1) ∧ RealA x0 ∧ RealA x2 ∧ RealA x3 ∧ RealA x4 ∧ RealA x5 ∧ RealA x6 ∧ RealA x7 := by
  have h0 := congrFun h ix0
  dsimp only [fn, fn_part1, fn_part2] at h0
  simp only [andi, IntOp.andi_eq_one] at h0
  obtain ⟨⟨⟨⟨⟨⟨⟨⟨a0, a2⟩, a3⟩, a4⟩, a5⟩, a6⟩, a7⟩, b⟩, l⟩ := h0
  exact ⟨graph_of_all b l, real_of_all a0, real_of_all a2, real_of_all a3, real_of_all a4, real_of_all a5,
    real_of_all a6, real_of_all a7⟩

end Cert.Pre_graph.Value

end
-- ==== Proof.Proj1.lean ====
/- The first projection call: the features, the two attention columns and the largest entry of the second, over the
   arrays the call finds. -/
module

public import proofs.«01_k».proof.Proof.Gen.KernelIdeal.Frame
public import proofs.«01_k».proof.Proof.Attention
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Gat

variable (V : (c : Dev nD) → (b : Ref sig .tc) → Buf (Elt Ideal) ((c : Thread nD τ).loc b))

/-- The blocks of the first projection call are whole arrays. -/
theorem idx0 : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The features array at the end of the call is the product of the two inputs. -/
theorem proj1_wh (c : Dev nD) : (dat0 V c).arrAt 3 cfg0.N = k0_pay1 (V c main_arg0) (V c main_arg2) := by
  refine (dat0 V c).arrAt_eq_of_after_last 3 t0_0 (by decide +kernel) _ fun j => ?_
  blk_simp
  rw [after0_3]
  frame_out
  blk_point [iblk0, idx0 t0_0]

/-- The attention columns at the end of the call are the features times the packed attention vector. -/
theorem proj1_ff (c : Dev nD) :
    (dat0 V c).arrAt 4 cfg0.N = k0_pay2 (V c main_arg0) (V c main_arg2) (V c main_v2) := by
  refine (dat0 V c).arrAt_eq_of_after_last 4 t0_0 (by decide +kernel) _ fun j => ?_
  blk_simp
  rw [after0_4]
  frame_out
  blk_point [iblk0, idx0 t0_0]

/-- The maximum at the end of the call is that of the second attention column. -/
theorem proj1_m (c : Dev nD) :
    (dat0 V c).arrAt 5 cfg0.N = k0_pay3 (V c main_arg0) (V c main_arg2) (V c main_v2) := by
  refine (dat0 V c).arrAt_eq_of_after_last 5 t0_0 (by decide +kernel) _ fun j => ?_
  blk_simp
  rw [after0_5]
  frame_out
  blk_point [iblk0, idx0 t0_0]

end Cert.KernelIdeal.Value

end
-- ==== Proof.Proj2.lean ====
/- The second projection call: for each of the two second layers the features, the two attention columns and the
   largest entry of the second, over the arrays the call finds. -/
module

public import proofs.«01_k».proof.Proof.Gen.KernelIdeal.Frame
public import proofs.«01_k».proof.Proof.Attention
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Gat

variable (V : (c : Dev nD) → (b : Ref sig .tc) → Buf (Elt Ideal) ((c : Thread nD τ).loc b))

/-- The blocks of the second projection call are whole arrays. -/
theorem idx2 : ∀ t : Fin cfg2.N, win2_0.index t = ![0, 0] ∧ win2_1.index t = ![0, 0] ∧ win2_2.index t = ![0, 0]
    ∧ win2_3.index t = ![0, 0] ∧ win2_4.index t = ![0, 0] ∧ win2_5.index t = ![0, 0] ∧ win2_6.index t = ![0, 0]
    ∧ win2_7.index t = ![0, 0] ∧ win2_8.index t = ![0, 0] ∧ win2_9.index t = ![0, 0] ∧ win2_10.index t = ![0, 0] :=
  (by decide +kernel : ∀ t : Fin grid2.N, _)

/-- The features of the first layer at the end of the call, over the arrays the call finds. -/
theorem proj2_mu_wh (c : Dev nD) : (dat2 V c).arrAt 5 cfg2.N
    = k2_pay3 (V c main_v15) (V c main_arg4) := by
  refine (dat2 V c).arrAt_eq_of_after_last 5 t2_0 (by decide +kernel) _ fun j => ?_
  blk_simp
  rw [after2_5]
  frame_out
  blk_point [iblk2, idx2 t2_0]

/-- The attention columns of the first layer at the end of the call, over the arrays the call finds. -/
theorem proj2_mu_ff (c : Dev nD) : (dat2 V c).arrAt 6 cfg2.N
    = k2_pay4 (V c main_v15) (V c main_arg4) (V c main_v5) := by
  refine (dat2 V c).arrAt_eq_of_after_last 6 t2_0 (by decide +kernel) _ fun j => ?_
  blk_simp
  rw [after2_6]
  frame_out
  blk_point [iblk2, idx2 t2_0]

/-- The maximum of the second attention column of the first layer at the end of the call, over the arrays the call finds. -/
theorem proj2_mu_m (c : Dev nD) : (dat2 V c).arrAt 7 cfg2.N
    = k2_pay5 (V c main_v15) (V c main_arg4) (V c main_v5) := by
  refine (dat2 V c).arrAt_eq_of_after_last 7 t2_0 (by decide +kernel) _ fun j => ?_
  blk_simp
  rw [after2_7]
  frame_out
  blk_point [iblk2, idx2 t2_0]

/-- The features of the second layer at the end of the call, over the arrays the call finds. -/
theorem proj2_sig_wh (c : Dev nD) : (dat2 V c).arrAt 8 cfg2.N
    = k2_pay6 (V c main_v15) (V c main_arg6) := by
  refine (dat2 V c).arrAt_eq_of_after_last 8 t2_0 (by decide +kernel) _ fun j => ?_
  blk_simp
  rw [after2_8]
  frame_out
  blk_point [iblk2, idx2 t2_0]

/-- The attention columns of the second layer at the end of the call, over the arrays the call finds. -/
theorem proj2_sig_ff (c : Dev nD) : (dat2 V c).arrAt 9 cfg2.N
    = k2_pay7 (V c main_v15) (V c main_arg6) (V c main_v8) := by
  refine (dat2 V c).arrAt_eq_of_after_last 9 t2_0 (by decide +kernel) _ fun j => ?_
  blk_simp
  rw [after2_9]
  frame_out
  blk_point [iblk2, idx2 t2_0]

/-- The maximum of the second attention column of the second layer at the end of the call, over the arrays the call finds. -/
theorem proj2_sig_m (c : Dev nD) : (dat2 V c).arrAt 10 cfg2.N
    = k2_pay1 (k2_pay8 (V c main_v15) (V c main_arg6) (V c main_v8)) := by
  refine (dat2 V c).arrAt_eq_of_after_last 10 t2_0 (by decide +kernel) _ fun j => ?_
  blk_simp
  rw [after2_10]
  frame_out
  blk_point [iblk2, idx2 t2_0]

end Cert.KernelIdeal.Value

end
-- ==== Proof.Agg1.lean ====
/- The first aggregation call: the rectified attention layer over the arrays the call finds. -/
module

public import proofs.«01_k».proof.Proof.Gen.KernelIdeal.Frame
public import proofs.«01_k».proof.Proof.Attention
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Gat

variable (V : (c : Dev nD) → (b : Ref sig .tc) → Buf (Elt Ideal) ((c : Thread nD τ).loc b))

/-- The index maps of the first aggregation call: the rows of the adjacency, of the first attention column and of the
    result move with the grid point, the other arrays are whole. -/
theorem idx1 : ∀ t : Fin cfg1.N, win1_0.index t = ![t.val, 0] ∧ win1_1.index t = ![t.val, 0] ∧ win1_2.index t = ![0, 0]
    ∧ win1_3.index t = ![0, 0] ∧ win1_4.index t = ![0, 0] ∧ win1_5.index t = ![t.val, 0] :=
  (by decide +kernel : ∀ t : Fin grid1.N, _)

/-- The layer the call computes, over whole arrays: the last column of the extended features counts. -/
def agg1 (adj : FVec Ideal S10000x10000 .f32) (f1 : FVec Ideal S10000x1 .f32) (f2 : FVec Ideal S1x10000 .f32)
    (m : FVec Ideal S1x1 .f32) (whe : FVec Ideal S10000x65 .f32) : FVec Ideal S10000x64 .f32 := fun y =>
  max (quotRow (fun j : Fin 10000 => adj (ix2 (y 0) j)) (f1 (ix2 (y 0) 0)) (fun j => f2 (ix2 0 j))
    (fun j => whe (ix2 j ⟨(y 1).val, Nat.lt_trans (y 1).isLt (by decide)⟩)) (fun j => whe (ix2 j 64)) (m (ix2 0 0))) 0

/-- What one grid point stores is the layer at the rows of its block. -/
theorem agg1_point (c : Dev nD) (t : Fin cfg1.N) (y) :
    k1_pay1 (iblk1 V c 0 t) (iblk1 V c 1 t) (iblk1 V c 2 t) (iblk1 V c 3 t) (iblk1 V c 4 t) y
      = agg1 (V c main_arg1) (V c main_v10) (V c main_v12) (V c main_v9_2) (V c main_v14)
          (((cfg1.win 5).blk t).view.emb y) := by
  pointwise [k1_pay1, agg1, quotRow, kWeight, leakyMax, Gat.slope]
  blk_point [iblk1, idx1 t]

/-- The result array at the end of the call is the layer. -/
theorem agg1_arr (c : Dev nD) : (dat1 V c).arrAt 5 cfg1.N
    = agg1 (V c main_arg1) (V c main_v10) (V c main_v12) (V c main_v9_2) (V c main_v14) := by
  refine (dat1 V c).arrAt_eq_of_covers 5 _ (by decide +kernel) fun t _ y => ?_
  blk_simp
  rw [after1_5]
  frame_out
  exact agg1_point V c t y

end Cert.KernelIdeal.Value

end
-- ==== Proof.Agg2.lean ====
/- The last call: the two second attention layers, the second one exponentiated, over the arrays the call finds. -/
module

public import proofs.«01_k».proof.Proof.Gen.KernelIdeal.Frame
public import proofs.«01_k».proof.Proof.Attention
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Gat

variable (V : (c : Dev nD) → (b : Ref sig .tc) → Buf (Elt Ideal) ((c : Thread nD τ).loc b))

/-- The index maps of the last call: the rows of the adjacency, of the two first attention columns and of the results
    move with the grid point, the other arrays are whole. -/
theorem idx3 : ∀ t : Fin cfg3.N, win3_0.index t = ![t.val, 0] ∧ win3_1.index t = ![t.val, 0] ∧ win3_2.index t = ![0, 0]
    ∧ win3_3.index t = ![0, 0] ∧ win3_4.index t = ![0, 0] ∧ win3_5.index t = ![t.val, 0] ∧ win3_6.index t = ![0, 0]
    ∧ win3_7.index t = ![0, 0] ∧ win3_8.index t = ![0, 0] ∧ win3_9.index t = ![t.val, 0]
    ∧ win3_10.index t = ![t.val, 0] :=
  (by decide +kernel : ∀ t : Fin grid3.N, _)

/-- A second layer over whole arrays: the last column of the extended features counts. -/
def agg2 (adj : FVec Ideal S10000x10000 .f32) (f1 : FVec Ideal S10000x1 .f32) (f2 : FVec Ideal S1x10000 .f32)
    (m : FVec Ideal S1x1 .f32) (whe : FVec Ideal S10000x33 .f32) : FVec Ideal S10000x32 .f32 := fun y =>
  quotRow (fun j : Fin 10000 => adj (ix2 (y 0) j)) (f1 (ix2 (y 0) 0)) (fun j => f2 (ix2 0 j))
    (fun j => whe (ix2 j ⟨(y 1).val, Nat.lt_trans (y 1).isLt (by decide)⟩)) (fun j => whe (ix2 j 32)) (m (ix2 0 0))

/-- What one grid point stores in the first result is the layer at the rows of its block. -/
theorem mu_point (c : Dev nD) (t : Fin cfg3.N) (y) :
    k3_pay2 (iblk3 V c 0 t) (iblk3 V c 1 t) (iblk3 V c 2 t) (iblk3 V c 3 t) (iblk3 V c 4 t) y
      = agg2 (V c main_arg1) (V c main_v19) (V c main_v21) (V c main_v16_2) (V c main_v17)
          (((cfg3.win 9).blk t).view.emb y) := by
  pointwise [k3_pay2, agg2, quotRow, kWeight, leakyMax, Gat.slope]
  blk_point [iblk3, idx3 t]

/-- What one grid point stores in the second result is the exponential of the layer at the rows of its block. -/
theorem sig_point (c : Dev nD) (t : Fin cfg3.N) (y) :
    k3_pay1 (iblk3 V c 0 t) (iblk3 V c 5 t) (iblk3 V c 6 t) (iblk3 V c 7 t) (iblk3 V c 8 t) y
      = Ideal.exp (agg2 (V c main_arg1) (V c main_v22) (V c main_v24) (V c main_v16_5) (V c main_v18)
          (((cfg3.win 10).blk t).view.emb y)) := by
  pointwise [k3_pay1, agg2, quotRow, kWeight, leakyMax, Gat.slope]
  blk_point [iblk3, idx3 t]

/-- The first result array at the end of the call is the layer. -/
theorem mu_arr (c : Dev nD) : (dat3 V c).arrAt 9 cfg3.N
    = agg2 (V c main_arg1) (V c main_v19) (V c main_v21) (V c main_v16_2) (V c main_v17) := by
  refine (dat3 V c).arrAt_eq_of_covers 9 _ (by decide +kernel) fun t _ y => ?_
  blk_simp
  rw [after3_9]
  frame_out
  exact mu_point V c t y

/-- The second result array at the end of the call is the exponential of the layer, entry by entry. -/
theorem sig_arr (c : Dev nD) : (dat3 V c).arrAt 10 cfg3.N
    = fun y => Ideal.exp (agg2 (V c main_arg1) (V c main_v22) (V c main_v24) (V c main_v16_5) (V c main_v18) y) := by
  refine (dat3 V c).arrAt_eq_of_covers 10 _ (by decide +kernel) fun t _ y => ?_
  blk_simp
  rw [after3_10]
  frame_out
  exact sig_point V c t y

end Cert.KernelIdeal.Value

end
-- ==== Proof.Layers.lean ====
/- One aggregation of the kernel is one layer of the model, when the arrays it reads hold the layer's features,
   attention terms and stabiliser. -/
module

public import proofs.«01_k».proof.Proof.Agg1
public import proofs.«01_k».proof.Proof.Agg2
public import proofs.«01_k».proof.Proof.Model

@[expose] public section

set_option maxRecDepth 16384

noncomputable section

namespace Cert.KernelIdeal.Value

open Idealize.ShloMosaic Idealize.ShloMosaic.TcCoe Idealize.SL.Sem Idealize.ShloMosaic.StableHlo
open Cert.KernelIdeal Cert.KernelIdeal.Gen Cert.Gat

/-- A column of a product by a packed pair of vectors is the product by the one packed there. -/
theorem mm_col {a b c : ℕ} (X : Fin a → Fin b → EReal) (P : Fin b → Fin c → EReal) (u : Fin b → EReal) (k : Fin c)
    (h : ∀ l, P l k = u l) (i : Fin a) : mm X P i k = mv X u i :=
  Finset.sum_congr rfl fun l _ => by rw [h l]

/-- The first aggregation is the rectified layer. -/
theorem agg1_layer {b : ℕ} (adj : FVec Ideal S10000x10000 .f32) (f1 : FVec Ideal S10000x1 .f32)
    (f2 : FVec Ideal S1x10000 .f32) (m : FVec Ideal S1x1 .f32) (whe : FVec Ideal S10000x65 .f32)
    (X : Fin 10000 → Fin b → EReal) (W : Fin b → Fin 64 → EReal) (u v : Fin 64 → EReal)
    (h1 : ∀ i, mat f1 i 0 = mv (mm X W) u i) (h2 : ∀ j, mat f2 0 j = mv (mm X W) v j)
    (hm : mat m 0 0 = top (mv (mm X W) v))
    (hw : ∀ j (k : Fin 64) (h : k.val < 65), mat whe j ⟨k.val, h⟩ = mm X W j k) (ho : ∀ j, mat whe j 64 = 1) :
    mat (agg1 adj f1 f2 m whe) = relu (kerLayer (mat adj) X W u v) := by
  funext i k
  have e1 : (fun j => mat whe j ⟨k.val, Nat.lt_trans k.isLt (by decide)⟩) = fun j => mm X W j k :=
    funext fun j => hw j k _
  have e2 : (fun j => mat whe j 64) = fun _ => (1 : EReal) := funext ho
  have e3 : (fun j => mat f2 0 j) = mv (mm X W) v := funext h2
  have e : mat (agg1 adj f1 f2 m whe) i k
      = max (quotRow (mat adj i) (mat f1 i 0) (fun j => mat f2 0 j)
          (fun j => mat whe j ⟨k.val, Nat.lt_trans k.isLt (by decide)⟩) (fun j => mat whe j 64) (mat m 0 0)) 0 := rfl
  rw [e, e1, e2, e3, h1, hm]
  rfl

/-- An aggregation of the second call is a layer. -/
theorem agg2_layer {b : ℕ} (adj : FVec Ideal S10000x10000 .f32) (f1 : FVec Ideal S10000x1 .f32)
    (f2 : FVec Ideal S1x10000 .f32) (m : FVec Ideal S1x1 .f32) (whe : FVec Ideal S10000x33 .f32)
    (X : Fin 10000 → Fin b → EReal) (W : Fin b → Fin 32 → EReal) (u v : Fin 32 → EReal)
    (h1 : ∀ i, mat f1 i 0 = mv (mm X W) u i) (h2 : ∀ j, mat f2 0 j = mv (mm X W) v j)
    (hm : mat m 0 0 = top (mv (mm X W) v))
    (hw : ∀ j (k : Fin 32) (h : k.val < 33), mat whe j ⟨k.val, h⟩ = mm X W j k) (ho : ∀ j, mat whe j 32 = 1) :
    mat (agg2 adj f1 f2 m whe) = kerLayer (mat adj) X W u v := by
  funext i k
  have e1 : (fun j => mat whe j ⟨k.val, Nat.lt_trans k.isLt (by decide)⟩) = fun j => mm X W j k :=
    funext fun j => hw j k _
  have e2 : (fun j => mat whe j 32) = fun _ => (1 : EReal) := funext ho
  have e3 : (fun j => mat f2 0 j) = mv (mm X W) v := funext h2
  have e : mat (agg2 adj f1 f2 m whe) i k
      = quotRow (mat adj i) (mat f1 i 0) (fun j => mat f2 0 j)
          (fun j => mat whe j ⟨k.val, Nat.lt_trans k.isLt (by decide)⟩) (fun j => mat whe j 32) (mat m 0 0) := rfl
  rw [e, e1, e2, e3, h1, hm]
  rfl

end Cert.KernelIdeal.Value

end
-- ==== Proof.Host.lean ====
/- What the kernel's operations between its calls write: the packed attention vectors, the attention columns cut
   apart, the features with a column of ones. -/
module

public import proofs.«01_k».proof.Proof.Gen.KernelIdeal.Frame
public import proofs.«01_k».proof.Proof.Model
public import Idealize.ShloMosaic.Lib.Pointwise
public import Idealize.ShloMosaic.Lib.Claim

@[expose] public section

set_option maxRecDepth 16384

noncomputable section

namespace Cert.KernelIdeal.Value

open Idealize.ShloMosaic Idealize.ShloMosaic.TcCoe Idealize.SL.Sem Idealize.ShloMosaic.StableHlo
open Cert.KernelIdeal Cert.KernelIdeal.Gen Cert.Gat

variable (U : Valuation τ sig (Elt Ideal))

/-- The first column of the vector packed from `arg3` is its first half. -/
theorem host0_v2_0 (k : Fin 64) : mat (after hostOps0 U (Proc.devRef .tc main_v2) : FVec Ideal S64x2 .f32) k 0
    = upper 64 (by decide) (U (Proc.devRef .tc main_arg3) : FVec Ideal S128x1 .f32) k := by
  unfold mat upper
  entry_read
  pointwise

/-- The second column of the vector packed from `arg3` is its second half. -/
theorem host0_v2_1 (k : Fin 64) : mat (after hostOps0 U (Proc.devRef .tc main_v2) : FVec Ideal S64x2 .f32) k 1
    = lower 64 (by decide) (U (Proc.devRef .tc main_arg3) : FVec Ideal S128x1 .f32) k := by
  unfold mat lower
  entry_read
  pointwise

/-- The first column of the vector packed from `arg5` is its first half. -/
theorem host0_v5_0 (k : Fin 32) : mat (after hostOps0 U (Proc.devRef .tc main_v5) : FVec Ideal S32x2 .f32) k 0
    = upper 32 (by decide) (U (Proc.devRef .tc main_arg5) : FVec Ideal S64x1 .f32) k := by
  unfold mat upper
  entry_read
  pointwise

/-- The second column of the vector packed from `arg5` is its second half. -/
theorem host0_v5_1 (k : Fin 32) : mat (after hostOps0 U (Proc.devRef .tc main_v5) : FVec Ideal S32x2 .f32) k 1
    = lower 32 (by decide) (U (Proc.devRef .tc main_arg5) : FVec Ideal S64x1 .f32) k := by
  unfold mat lower
  entry_read
  pointwise

/-- The first column of the vector packed from `arg7` is its first half. -/
theorem host0_v8_0 (k : Fin 32) : mat (after hostOps0 U (Proc.devRef .tc main_v8) : FVec Ideal S32x2 .f32) k 0
    = upper 32 (by decide) (U (Proc.devRef .tc main_arg7) : FVec Ideal S64x1 .f32) k := by
  unfold mat upper
  entry_read
  pointwise

/-- The second column of the vector packed from `arg7` is its second half. -/
theorem host0_v8_1 (k : Fin 32) : mat (after hostOps0 U (Proc.devRef .tc main_v8) : FVec Ideal S32x2 .f32) k 1
    = lower 32 (by decide) (U (Proc.devRef .tc main_arg7) : FVec Ideal S64x1 .f32) k := by
  unfold mat lower
  entry_read
  pointwise

/-- The column cut out of `v9_1` first is its first column. -/
theorem host1_v10 (k : Fin 10000) : mat (after hostOps1 U (Proc.devRef .tc main_v10) : FVec Ideal S10000x1 .f32) k 0
    = mat (U (Proc.devRef .tc main_v9_1) : FVec Ideal S10000x2 .f32) k 0 := by
  unfold mat
  entry_read
  pointwise

/-- The row cut out of `v9_1` is its second column. -/
theorem host1_v12 (k : Fin 10000) : mat (after hostOps1 U (Proc.devRef .tc main_v12) : FVec Ideal S1x10000 .f32) 0 k
    = mat (U (Proc.devRef .tc main_v9_1) : FVec Ideal S10000x2 .f32) k 1 := by
  unfold mat
  entry_read
  pointwise

/-- The column cut out of `v16_1` first is its first column. -/
theorem host3_v19 (k : Fin 10000) : mat (after hostOps3 U (Proc.devRef .tc main_v19) : FVec Ideal S10000x1 .f32) k 0
    = mat (U (Proc.devRef .tc main_v16_1) : FVec Ideal S10000x2 .f32) k 0 := by
  unfold mat
  entry_read
  pointwise

/-- The row cut out of `v16_1` is its second column. -/
theorem host3_v21 (k : Fin 10000) : mat (after hostOps3 U (Proc.devRef .tc main_v21) : FVec Ideal S1x10000 .f32) 0 k
    = mat (U (Proc.devRef .tc main_v16_1) : FVec Ideal S10000x2 .f32) k 1 := by
  unfold mat
  entry_read
  pointwise

/-- The column cut out of `v16_4` first is its first column. -/
theorem host3_v22 (k : Fin 10000) : mat (after hostOps3 U (Proc.devRef .tc main_v22) : FVec Ideal S10000x1 .f32) k 0
    = mat (U (Proc.devRef .tc main_v16_4) : FVec Ideal S10000x2 .f32) k 0 := by
  unfold mat
  entry_read
  pointwise

/-- The row cut out of `v16_4` is its second column. -/
theorem host3_v24 (k : Fin 10000) : mat (after hostOps3 U (Proc.devRef .tc main_v24) : FVec Ideal S1x10000 .f32) 0 k
    = mat (U (Proc.devRef .tc main_v16_4) : FVec Ideal S10000x2 .f32) k 1 := by
  unfold mat
  entry_read
  pointwise

/-- The column of ones. -/
theorem host1_v13 (k : Fin 10000) :
    mat (after hostOps1 U (Proc.devRef .tc main_v13) : FVec Ideal S10000x1 .f32) k 0 = 1 := by
  unfold mat
  entry_read
  pointwise

/-- The last column of the extended features of the first layer is one. -/
theorem host1_v14_one (k : Fin 10000) :
    mat (after hostOps1 U (Proc.devRef .tc main_v14) : FVec Ideal S10000x65 .f32) k 64 = 1 := by
  unfold mat
  entry_read
  pointwise

/-- The first columns of the extended features of the first layer are the features. -/
theorem host1_v14 (k : Fin 10000) (l : Fin 64) (h : l.val < 65) :
    mat (after hostOps1 U (Proc.devRef .tc main_v14) : FVec Ideal S10000x65 .f32) k ⟨l.val, h⟩
      = mat (U (Proc.devRef .tc main_v9_0) : FVec Ideal S10000x64 .f32) k l := by
  unfold mat
  entry_read
  pointwise

/-- The last column of `v17` is the column of ones. -/
theorem host3_v17_one (k : Fin 10000) :
    mat (after hostOps3 U (Proc.devRef .tc main_v17) : FVec Ideal S10000x33 .f32) k 32
      = mat (U (Proc.devRef .tc main_v13) : FVec Ideal S10000x1 .f32) k 0 := by
  unfold mat
  entry_read
  pointwise

/-- The first columns of `v17` are the features `v16_0`. -/
theorem host3_v17 (k : Fin 10000) (l : Fin 32) (h : l.val < 33) :
    mat (after hostOps3 U (Proc.devRef .tc main_v17) : FVec Ideal S10000x33 .f32) k ⟨l.val, h⟩
      = mat (U (Proc.devRef .tc main_v16_0) : FVec Ideal S10000x32 .f32) k l := by
  unfold mat
  entry_read
  pointwise

/-- The last column of `v18` is the column of ones. -/
theorem host3_v18_one (k : Fin 10000) :
    mat (after hostOps3 U (Proc.devRef .tc main_v18) : FVec Ideal S10000x33 .f32) k 32
      = mat (U (Proc.devRef .tc main_v13) : FVec Ideal S10000x1 .f32) k 0 := by
  unfold mat
  entry_read
  pointwise

/-- The first columns of `v18` are the features `v16_3`. -/
theorem host3_v18 (k : Fin 10000) (l : Fin 32) (h : l.val < 33) :
    mat (after hostOps3 U (Proc.devRef .tc main_v18) : FVec Ideal S10000x33 .f32) k ⟨l.val, h⟩
      = mat (U (Proc.devRef .tc main_v16_3) : FVec Ideal S10000x32 .f32) k l := by
  unfold mat
  entry_read
  pointwise

end Cert.KernelIdeal.Value

end
-- ==== Proof.Payloads.lean ====
/- What the projection calls compute, entry by entry. -/
module

public import proofs.«01_k».proof.Proof.Gen.KernelIdeal.Frame
public import proofs.«01_k».proof.Proof.Model
public import Idealize.ShloMosaic.Lib.Pointwise
public import Idealize.ShloMosaic.Lib.Claim

@[expose] public section

set_option maxRecDepth 16384

noncomputable section

namespace Cert.KernelIdeal.Value

open Idealize.ShloMosaic Idealize.ShloMosaic.TcCoe Idealize.SL.Sem Idealize.ShloMosaic.StableHlo
open Cert.KernelIdeal Cert.KernelIdeal.Gen Cert.Gat

/-- The features of the first layer are the product of features and weights. -/
theorem k0_pay1_at (x : FVec Ideal S10000x128 .f32) (w : FVec Ideal S128x64 .f32) (r : Fin 10000) (l : Fin 64) :
    mat (k0_pay1 (F := Ideal) x w) r l = mm (mat x) (mat w) r l := by
  unfold mat mm
  pointwise [k0_pay1, k0_pay2, k0_pay3]

/-- The attention columns of the first layer are the features times the packed vector. -/
theorem k0_pay2_at (x : FVec Ideal S10000x128 .f32) (w : FVec Ideal S128x64 .f32) (a : FVec Ideal S64x2 .f32) (r : Fin 10000)
    (l : Fin 2) : mat (k0_pay2 (F := Ideal) x w a) r l = mm (mm (mat x) (mat w)) (mat a) r l := by
  unfold mat mm
  pointwise [k0_pay1, k0_pay2, k0_pay3]

/-- The maximum of the first layer is that of its second attention column. -/
theorem k0_pay3_at (x : FVec Ideal S10000x128 .f32) (w : FVec Ideal S128x64 .f32) (a : FVec Ideal S64x2 .f32) (r l : Fin 1) :
    mat (k0_pay3 (F := Ideal) x w a) r l = top fun i => mm (mm (mat x) (mat w)) (mat a) i 1 := by
  unfold mat mm top
  pointwise [k0_pay1, k0_pay2, k0_pay3]
  simp only [negInf_eq]

/-- The features of the second, mean layer are the product of features and weights. -/
theorem k2_pay3_at (x : FVec Ideal S10000x64 .f32) (w : FVec Ideal S64x32 .f32) (r : Fin 10000) (l : Fin 32) :
    mat (k2_pay3 (F := Ideal) x w) r l = mm (mat x) (mat w) r l := by
  unfold mat mm
  pointwise [k2_pay2, k2_pay3, k2_pay4, k2_pay5]

/-- The attention columns of the second, mean layer are the features times the packed vector. -/
theorem k2_pay4_at (x : FVec Ideal S10000x64 .f32) (w : FVec Ideal S64x32 .f32) (a : FVec Ideal S32x2 .f32) (r : Fin 10000)
    (l : Fin 2) : mat (k2_pay4 (F := Ideal) x w a) r l = mm (mm (mat x) (mat w)) (mat a) r l := by
  unfold mat mm
  pointwise [k2_pay2, k2_pay3, k2_pay4, k2_pay5]

/-- The maximum of the second, mean layer is that of its second attention column. -/
theorem k2_pay5_at (x : FVec Ideal S10000x64 .f32) (w : FVec Ideal S64x32 .f32) (a : FVec Ideal S32x2 .f32) (r l : Fin 1) :
    mat (k2_pay5 (F := Ideal) x w a) r l = top fun i => mm (mm (mat x) (mat w)) (mat a) i 1 := by
  unfold mat mm top
  pointwise [k2_pay2, k2_pay3, k2_pay4, k2_pay5]
  simp only [negInf_eq]

/-- The features of the second, spread layer are the product of features and weights. -/
theorem k2_pay6_at (x : FVec Ideal S10000x64 .f32) (w : FVec Ideal S64x32 .f32) (r : Fin 10000) (l : Fin 32) :
    mat (k2_pay6 (F := Ideal) x w) r l = mm (mat x) (mat w) r l := by
  unfold mat mm
  pointwise [k2_pay1, k2_pay2, k2_pay6, k2_pay7, k2_pay8]

/-- The attention columns of the second, spread layer are the features times the packed vector. -/
theorem k2_pay7_at (x : FVec Ideal S10000x64 .f32) (w : FVec Ideal S64x32 .f32) (a : FVec Ideal S32x2 .f32) (r : Fin 10000)
    (l : Fin 2) : mat (k2_pay7 (F := Ideal) x w a) r l = mm (mm (mat x) (mat w)) (mat a) r l := by
  unfold mat mm
  pointwise [k2_pay1, k2_pay2, k2_pay6, k2_pay7, k2_pay8]

/-- The maximum of the second, spread layer is that of its second attention column. -/
theorem k2_pay8_at (x : FVec Ideal S10000x64 .f32) (w : FVec Ideal S64x32 .f32) (a : FVec Ideal S32x2 .f32) (r l : Fin 1) :
    mat (k2_pay1 (F := Ideal) <| k2_pay8 (F := Ideal) x w a) r l = top fun i => mm (mm (mat x) (mat w)) (mat a) i 1 := by
  unfold mat mm top
  pointwise [k2_pay1, k2_pay2, k2_pay6, k2_pay7, k2_pay8]
  simp only [negInf_eq]

end Cert.KernelIdeal.Value

end
-- ==== Proof.KernelValue.lean ====
/- What the kernel's two result arrays hold at the end, as functions of its argument arrays. -/
module

public import proofs.«01_k».proof.Proof.Proj1
public import proofs.«01_k».proof.Proof.Proj2
public import proofs.«01_k».proof.Proof.Layers
public import proofs.«01_k».proof.Proof.Host
public import proofs.«01_k».proof.Proof.Payloads

@[expose] public section

set_option maxRecDepth 16384

noncomputable section

namespace Cert.KernelIdeal.Value

open Idealize.ShloMosaic Idealize.ShloMosaic.TcCoe Idealize.SL.Sem Idealize.ShloMosaic.StableHlo
open Cert.KernelIdeal Cert.KernelIdeal.Gen Cert.Gat

variable (m : (ℓ : Loc nD τ sig) → Buf (Elt Ideal) ℓ) (ρ : Dev nD → PrngReg) (c : Dev nD)

/-! ## The arguments, at their array types -/

/-- The nodes' features. -/
abbrev argX : FVec Ideal S10000x128 .f32 := m ((c.tc : Thread nD τ).loc main_arg0)
/-- The adjacency matrix. -/
abbrev argAdj : FVec Ideal S10000x10000 .f32 := m ((c.tc : Thread nD τ).loc main_arg1)
/-- The first layer's weights. -/
abbrev argW1 : FVec Ideal S128x64 .f32 := m ((c.tc : Thread nD τ).loc main_arg2)
/-- The first layer's attention vector. -/
abbrev argA1 : FVec Ideal S128x1 .f32 := m ((c.tc : Thread nD τ).loc main_arg3)
/-- The mean layer's weights. -/
abbrev argWmu : FVec Ideal S64x32 .f32 := m ((c.tc : Thread nD τ).loc main_arg4)
/-- The mean layer's attention vector. -/
abbrev argAmu : FVec Ideal S64x1 .f32 := m ((c.tc : Thread nD τ).loc main_arg5)
/-- The spread layer's weights. -/
abbrev argWsig : FVec Ideal S64x32 .f32 := m ((c.tc : Thread nD τ).loc main_arg6)
/-- The spread layer's attention vector. -/
abbrev argAsig : FVec Ideal S64x1 .f32 := m ((c.tc : Thread nD τ).loc main_arg7)

/-! ## The first layer -/

/-- After the first call `v9_0` holds the features of the first layer. -/
theorem w2_wh : (W2 m ρ c (Proc.devRef .tc main_v9_0) : FVec Ideal S10000x64 .f32)
    = k0_pay1 (F := Ideal) (argX m c) (argW1 m c) := by
  refine (W2_arr m ρ c 3).trans ((proj1_wh (V1 m ρ) c).trans ?_)
  rw [show V1 m ρ c main_arg0 = _ from W1_args m ρ c main_arg0 (by decide),
    show V1 m ρ c main_arg2 = _ from W1_args m ρ c main_arg2 (by decide)]

/-- After the first call `v9_1` holds the attention columns of the first layer. -/
theorem w2_ff : (W2 m ρ c (Proc.devRef .tc main_v9_1) : FVec Ideal S10000x2 .f32)
    = k0_pay2 (argX m c) (argW1 m c) (W1 m ρ c (Proc.devRef .tc main_v2)) := by
  refine (W2_arr m ρ c 4).trans ((proj1_ff (V1 m ρ) c).trans ?_)
  rw [show V1 m ρ c main_arg0 = _ from W1_args m ρ c main_arg0 (by decide),
    show V1 m ρ c main_arg2 = _ from W1_args m ρ c main_arg2 (by decide)]

/-- After the first call `v9_2` holds the largest second attention term of the first layer. -/
theorem w2_m : (W2 m ρ c (Proc.devRef .tc main_v9_2) : FVec Ideal S1x1 .f32)
    = k0_pay3 (argX m c) (argW1 m c) (W1 m ρ c (Proc.devRef .tc main_v2)) := by
  refine (W2_arr m ρ c 5).trans ((proj1_m (V1 m ρ) c).trans ?_)
  rw [show V1 m ρ c main_arg0 = _ from W1_args m ρ c main_arg0 (by decide),
    show V1 m ρ c main_arg2 = _ from W1_args m ρ c main_arg2 (by decide)]

/-- The first attention column after the first call, as a product by the vector's first half. -/
theorem w2_ff_0 (i : Fin 10000) : mat (W2 m ρ c (Proc.devRef .tc main_v9_1) : FVec Ideal S10000x2 .f32) i 0
    = mv (mm (mat (argX m c)) (mat (argW1 m c))) (upper 64 (by decide) (argA1 m c)) i := by
  rw [w2_ff, k0_pay2_at]
  exact mm_col _ _ _ _ (fun l => host0_v2_0 (W0 m ρ c) l) i

/-- The second attention column after the first call, as a product by the vector's second half. -/
theorem w2_ff_1 (i : Fin 10000) : mat (W2 m ρ c (Proc.devRef .tc main_v9_1) : FVec Ideal S10000x2 .f32) i 1
    = mv (mm (mat (argX m c)) (mat (argW1 m c))) (lower 64 (by decide) (argA1 m c)) i := by
  rw [w2_ff, k0_pay2_at]
  exact mm_col _ _ _ _ (fun l => host0_v2_1 (W0 m ρ c) l) i

/-- The hidden features after the second call. -/
theorem w4_hidden : mat (W4 m ρ c (Proc.devRef .tc main_v15) : FVec Ideal S10000x64 .f32)
    = kerHidden (argX m c) (argAdj m c) (argW1 m c) (argA1 m c) := by
  have e : (W4 m ρ c (Proc.devRef .tc main_v15) : FVec Ideal S10000x64 .f32)
      = agg1 (argAdj m c) (W3 m ρ c (Proc.devRef .tc main_v10)) (W3 m ρ c (Proc.devRef .tc main_v12))
          (W2 m ρ c (Proc.devRef .tc main_v9_2)) (W3 m ρ c (Proc.devRef .tc main_v14)) := by
    refine (W4_arr m ρ c 5).trans ((agg1_arr (V3 m ρ) c).trans ?_)
    rw [show V3 m ρ c main_arg1 = _ from W3_args m ρ c main_arg1 (by decide),
      show V3 m ρ c main_v9_2 = _ from W3_of m ρ c main_v9_2 (by decide)]
  rw [e]
  refine agg1_layer _ _ _ _ _ _ _ _ _ (fun i => ?_) (fun j => ?_) ?_ (fun j k h => ?_) (fun j => ?_)
  · exact (host1_v10 (W2 m ρ c) i).trans (w2_ff_0 m ρ c i)
  · exact (host1_v12 (W2 m ρ c) j).trans (w2_ff_1 m ρ c j)
  · rw [w2_m, k0_pay3_at]
    exact congrArg top (funext fun i => mm_col _ _ _ _ (fun l => host0_v2_1 (W0 m ρ c) l) i)
  · refine (host1_v14 (W2 m ρ c) j k h).trans ?_
    rw [w2_wh, k0_pay1_at]
  · exact host1_v14_one (W2 m ρ c) j

/-! ## What the second call finds -/

/-- The mean layer's packed vector still stands, as the first operations wrote it, when the third call begins. -/
theorem w4_v5 : W4 m ρ c (Proc.devRef .tc main_v5) = W1 m ρ c (Proc.devRef .tc main_v5) :=
  (W4_of m ρ c main_v5 (by decide +kernel)).trans
    ((W3_of m ρ c main_v5 (by decide)).trans (W2_of m ρ c main_v5 (by decide +kernel)))

/-- The spread layer's packed vector is kept likewise. -/
theorem w4_v8 : W4 m ρ c (Proc.devRef .tc main_v8) = W1 m ρ c (Proc.devRef .tc main_v8) :=
  (W4_of m ρ c main_v8 (by decide +kernel)).trans
    ((W3_of m ρ c main_v8 (by decide)).trans (W2_of m ρ c main_v8 (by decide +kernel)))

/-- The column of ones is kept up to the last call's operations. -/
theorem w5_one (k : Fin 10000) : mat (W5 m ρ c (Proc.devRef .tc main_v13) : FVec Ideal S10000x1 .f32) k 0 = 1 := by
  rw [show W5 m ρ c (Proc.devRef .tc main_v13) = W3 m ρ c (Proc.devRef .tc main_v13) from
    (W5_of m ρ c main_v13 (by decide +kernel)).trans (W4_of m ρ c main_v13 (by decide +kernel))]
  exact host1_v13 (W2 m ρ c) k

/-! ## The mean layer -/

/-- After the third call `v16_0` holds the features of the mean layer. -/
theorem w5_mu_wh : (W5 m ρ c (Proc.devRef .tc main_v16_0) : FVec Ideal S10000x32 .f32)
    = k2_pay3 (W4 m ρ c (Proc.devRef .tc main_v15)) (argWmu m c) := by
  refine (W5_arr m ρ c 5).trans ((proj2_mu_wh (V4 m ρ) c).trans ?_)
  rw [show V4 m ρ c main_arg4 = _ from W4_args m ρ c main_arg4 (by decide)]

/-- After the third call `v16_1` holds the attention columns of the mean layer. -/
theorem w5_mu_ff : (W5 m ρ c (Proc.devRef .tc main_v16_1) : FVec Ideal S10000x2 .f32)
    = k2_pay4 (W4 m ρ c (Proc.devRef .tc main_v15)) (argWmu m c) (W1 m ρ c (Proc.devRef .tc main_v5)) := by
  refine (W5_arr m ρ c 6).trans ((proj2_mu_ff (V4 m ρ) c).trans ?_)
  rw [show V4 m ρ c main_arg4 = _ from W4_args m ρ c main_arg4 (by decide), show V4 m ρ c main_v5 = _ from w4_v5 m ρ c]

/-- After the third call `v16_2` holds the largest second attention term of the mean layer. -/
theorem w5_mu_m : (W5 m ρ c (Proc.devRef .tc main_v16_2) : FVec Ideal S1x1 .f32)
    = k2_pay5 (W4 m ρ c (Proc.devRef .tc main_v15)) (argWmu m c) (W1 m ρ c (Proc.devRef .tc main_v5)) := by
  refine (W5_arr m ρ c 7).trans ((proj2_mu_m (V4 m ρ) c).trans ?_)
  rw [show V4 m ρ c main_arg4 = _ from W4_args m ρ c main_arg4 (by decide), show V4 m ρ c main_v5 = _ from w4_v5 m ρ c]

/-- The first result at the end is the mean layer. -/
theorem mu_value : mat (W7 m ρ c (Proc.devRef .tc main_v25_0) : FVec Ideal S10000x32 .f32)
    = kerOut (argX m c) (argAdj m c) (argW1 m c) (argA1 m c) (argWmu m c) (argAmu m c) := by
  have e : (W7 m ρ c (Proc.devRef .tc main_v25_0) : FVec Ideal S10000x32 .f32)
      = agg2 (argAdj m c) (W6 m ρ c (Proc.devRef .tc main_v19)) (W6 m ρ c (Proc.devRef .tc main_v21))
          (W5 m ρ c (Proc.devRef .tc main_v16_2)) (W6 m ρ c (Proc.devRef .tc main_v17)) := by
    refine (W7_arr m ρ c 9).trans ((mu_arr (V6 m ρ) c).trans ?_)
    rw [show V6 m ρ c main_arg1 = _ from W6_args m ρ c main_arg1 (by decide),
      show V6 m ρ c main_v16_2 = _ from W6_of m ρ c main_v16_2 (by decide)]
  rw [e]
  unfold kerOut
  rw [← w4_hidden m ρ c]
  refine agg2_layer _ _ _ _ _ _ _ _ _ (fun i => ?_) (fun j => ?_) ?_ (fun j k h => ?_) (fun j => ?_)
  · refine (host3_v19 (W5 m ρ c) i).trans ?_
    rw [w5_mu_ff, k2_pay4_at]
    exact mm_col _ _ _ _ (fun l => host0_v5_0 (W0 m ρ c) l) i
  · refine (host3_v21 (W5 m ρ c) j).trans ?_
    rw [w5_mu_ff, k2_pay4_at]
    exact mm_col _ _ _ _ (fun l => host0_v5_1 (W0 m ρ c) l) j
  · rw [w5_mu_m, k2_pay5_at]
    exact congrArg top (funext fun i => mm_col _ _ _ _ (fun l => host0_v5_1 (W0 m ρ c) l) i)
  · refine (host3_v17 (W5 m ρ c) j k h).trans ?_
    rw [w5_mu_wh, k2_pay3_at]
  · exact (host3_v17_one (W5 m ρ c) j).trans (w5_one m ρ c j)

/-! ## The spread layer -/

/-- After the third call `v16_3` holds the features of the spread layer. -/
theorem w5_sig_wh : (W5 m ρ c (Proc.devRef .tc main_v16_3) : FVec Ideal S10000x32 .f32)
    = k2_pay6 (W4 m ρ c (Proc.devRef .tc main_v15)) (argWsig m c) := by
  refine (W5_arr m ρ c 8).trans ((proj2_sig_wh (V4 m ρ) c).trans ?_)
  rw [show V4 m ρ c main_arg6 = _ from W4_args m ρ c main_arg6 (by decide)]

/-- After the third call `v16_4` holds the attention columns of the spread layer. -/
theorem w5_sig_ff : (W5 m ρ c (Proc.devRef .tc main_v16_4) : FVec Ideal S10000x2 .f32)
    = k2_pay7 (W4 m ρ c (Proc.devRef .tc main_v15)) (argWsig m c) (W1 m ρ c (Proc.devRef .tc main_v8)) := by
  refine (W5_arr m ρ c 9).trans ((proj2_sig_ff (V4 m ρ) c).trans ?_)
  rw [show V4 m ρ c main_arg6 = _ from W4_args m ρ c main_arg6 (by decide), show V4 m ρ c main_v8 = _ from w4_v8 m ρ c]

/-- After the third call `v16_5` holds the largest second attention term of the spread layer. -/
theorem w5_sig_m : (W5 m ρ c (Proc.devRef .tc main_v16_5) : FVec Ideal S1x1 .f32)
    = k2_pay1 (k2_pay8 (W4 m ρ c (Proc.devRef .tc main_v15)) (argWsig m c) (W1 m ρ c (Proc.devRef .tc main_v8))) := by
  refine (W5_arr m ρ c 10).trans ((proj2_sig_m (V4 m ρ) c).trans ?_)
  rw [show V4 m ρ c main_arg6 = _ from W4_args m ρ c main_arg6 (by decide), show V4 m ρ c main_v8 = _ from w4_v8 m ρ c]

/-- The second result at the end is the exponential of the spread layer. -/
theorem sig_value : mat (W7 m ρ c (Proc.devRef .tc main_v25_1) : FVec Ideal S10000x32 .f32)
    = fun i k => Ideal.exp (kerOut (argX m c) (argAdj m c) (argW1 m c) (argA1 m c) (argWsig m c) (argAsig m c) i k) := by
  have e : (W7 m ρ c (Proc.devRef .tc main_v25_1) : FVec Ideal S10000x32 .f32)
      = fun y => Ideal.exp (agg2 (argAdj m c) (W6 m ρ c (Proc.devRef .tc main_v22)) (W6 m ρ c (Proc.devRef .tc main_v24))
          (W5 m ρ c (Proc.devRef .tc main_v16_5)) (W6 m ρ c (Proc.devRef .tc main_v18)) y) := by
    refine (W7_arr m ρ c 10).trans ((sig_arr (V6 m ρ) c).trans ?_)
    rw [show V6 m ρ c main_arg1 = _ from W6_args m ρ c main_arg1 (by decide),
      show V6 m ρ c main_v16_5 = _ from W6_of m ρ c main_v16_5 (by decide)]
  rw [e]
  have h : mat (agg2 (argAdj m c) (W6 m ρ c (Proc.devRef .tc main_v22)) (W6 m ρ c (Proc.devRef .tc main_v24))
        (W5 m ρ c (Proc.devRef .tc main_v16_5)) (W6 m ρ c (Proc.devRef .tc main_v18)))
      = kerOut (argX m c) (argAdj m c) (argW1 m c) (argA1 m c) (argWsig m c) (argAsig m c) := by
    unfold kerOut
    rw [← w4_hidden m ρ c]
    refine agg2_layer _ _ _ _ _ _ _ _ _ (fun i => ?_) (fun j => ?_) ?_ (fun j k h => ?_) (fun j => ?_)
    · refine (host3_v22 (W5 m ρ c) i).trans ?_
      rw [w5_sig_ff, k2_pay7_at]
      exact mm_col _ _ _ _ (fun l => host0_v8_0 (W0 m ρ c) l) i
    · refine (host3_v24 (W5 m ρ c) j).trans ?_
      rw [w5_sig_ff, k2_pay7_at]
      exact mm_col _ _ _ _ (fun l => host0_v8_1 (W0 m ρ c) l) j
    · rw [w5_sig_m, k2_pay8_at]
      exact congrArg top (funext fun i => mm_col _ _ _ _ (fun l => host0_v8_1 (W0 m ρ c) l) i)
    · refine (host3_v18 (W5 m ρ c) j k h).trans ?_
      rw [w5_sig_wh, k2_pay6_at]
    · exact (host3_v18_one (W5 m ρ c) j).trans (w5_one m ρ c j)
  rw [← h]
  rfl

end Cert.KernelIdeal.Value

end
-- ==== Proof.Reference.lean ====
/- What the reference computes: its attention layers read entry by entry. -/
module

public import proofs.«01_k».proof.Proof.Gen.ReferenceIdeal.Read
public import proofs.«01_k».proof.Proof.Model
public import Idealize.ShloMosaic.Lib.Pointwise

@[expose] public section

set_option maxRecDepth 16384

noncomputable section

namespace Cert.ReferenceIdeal.Value

open Idealize.ShloMosaic Idealize.ShloMosaic.TcCoe Idealize.SL.Sem Idealize.ShloMosaic.StableHlo
open Cert.ReferenceIdeal Cert.ReferenceIdeal.Gen Cert.Gat

/-! ## The pieces of a layer, as array operations -/

/-- The features of the first layer. -/
def feat1 (x : FVec Ideal S10000x128 .f32) (w : FVec Ideal S128x64 .f32) : FVec Ideal S10000x64 .f32 :=
  Host.dotGeneral dot_S10000x128_S128x64_S10000x64_1_0_0_1_n_n none x w

/-- The features of a second layer. -/
def feat2 (h : FVec Ideal S10000x64 .f32) (w : FVec Ideal S64x32 .f32) : FVec Ideal S10000x32 .f32 :=
  Host.dotGeneral dot_S10000x64_S64x32_S10000x32_1_0_0_1_n_n none h w

/-- The sums of the first layer's two attention terms, for every pair of nodes. -/
def sums1 (wh : FVec Ideal S10000x64 .f32) (a : FVec Ideal S128x1 .f32) : FVec Ideal S10000x10000 .f32 :=
  addf (broadcastInDim S10000x10000 ![0, 1] bcast_S10000x1_S10000x10000_0_1
      (Host.dotGeneral dot_S10000x64_S64x1_S10000x1_1_0_0_1_n_n none wh
        (extractStridedSlice S64x1 ![0, 0] a slices_S128x1_S64x1_0_0)))
    (broadcastInDim S10000x10000 ![0, 1] bcast_S1x10000_S10000x10000_0_1
      (transpose S1x10000 [1, 0] (Host.dotGeneral dot_S10000x64_S64x1_S10000x1_1_0_0_1_n_n none wh
        (extractStridedSlice S64x1 ![64, 0] a slices_S128x1_S64x1_64_0)) transposes_S10000x1_S1x10000_1_0))

/-- The sums of a second layer's two attention terms, for every pair of nodes. -/
def sums2 (wh : FVec Ideal S10000x32 .f32) (a : FVec Ideal S64x1 .f32) : FVec Ideal S10000x10000 .f32 :=
  addf (broadcastInDim S10000x10000 ![0, 1] bcast_S10000x1_S10000x10000_0_1
      (Host.dotGeneral dot_S10000x32_S32x1_S10000x1_1_0_0_1_n_n none wh
        (extractStridedSlice S32x1 ![0, 0] a slices_S64x1_S32x1_0_0)))
    (broadcastInDim S10000x10000 ![0, 1] bcast_S1x10000_S10000x10000_0_1
      (transpose S1x10000 [1, 0] (Host.dotGeneral dot_S10000x32_S32x1_S10000x1_1_0_0_1_n_n none wh
        (extractStridedSlice S32x1 ![32, 0] a slices_S64x1_S32x1_32_0)) transposes_S10000x1_S1x10000_1_0))

/-- The rectified sums where there is an edge, minus infinity elsewhere. -/
def masked (e adj : FVec Ideal S10000x10000 .f32) : FVec Ideal S10000x10000 .f32 :=
  select (cmpf .ogt adj (broadcastInDim S10000x10000 ![] bcast_S_S10000x10000 (constant S_ .f32 0x00000000#32)))
    (select (cmpf .oge e (broadcastInDim S10000x10000 ![] bcast_S_S10000x10000 (constant S_ .f32 0x00000000#32))) e
      (mulf (broadcastInDim S10000x10000 ![] bcast_S_S10000x10000 (id (constant S_ .f32 0x3E4CCCCD#32))) e))
    (broadcastInDim S10000x10000 ![] bcast_S_S10000x10000 (constant S_ .f32 0xFF800000#32))

/-- The largest score of each row. -/
def rowMax (s : FVec Ideal S10000x10000 .f32) : FVec Ideal S10000 .f32 :=
  Host.reduce FloatOps.maximumf s (constant S_ .f32 0xFF800000#32) reducesTo_S10000x10000_S10000_d1 h_S_

/-- The exponentials of the scores, each less its row's entry of `r`, at least minus infinity. -/
def expo (s : FVec Ideal S10000x10000 .f32) (r : FVec Ideal S10000 .f32) : FVec Ideal S10000x10000 .f32 :=
  Host.exp (subf s (broadcastInDim S10000x10000 ![0, 1] bcast_S10000x1_S10000x10000_0_1
    (broadcastInDim S10000x1 ![0] bcast_S10000_S10000x1_0
      (maximumf (broadcastInDim S10000 ![] bcast_S_S10000 (constant S_ .f32 0xFF800000#32)) r))))

/-- The weights, each over its row's sum. -/
def share (p : FVec Ideal S10000x10000 .f32) : FVec Ideal S10000x10000 .f32 :=
  Host.divf p (broadcastInDim S10000x10000 ![0, 1] bcast_S10000x1_S10000x10000_0_1
    (broadcastInDim S10000x1 ![0] bcast_S10000_S10000x1_0
      (Host.reduceAdd p (constant S_ .f32 0x00000000#32) reducesTo_S10000x10000_S10000_d1 h_S_)))

/-- The first layer with its rectifier. -/
def hidden (x : FVec Ideal S10000x128 .f32) (adj : FVec Ideal S10000x10000 .f32) (w : FVec Ideal S128x64 .f32)
    (a : FVec Ideal S128x1 .f32) : FVec Ideal S10000x64 .f32 :=
  maximumf (Host.dotGeneral dot_S10000x10000_S10000x64_S10000x64_1_0_0_1_n_n none
      (share (expo (masked (sums1 (feat1 x w) a) adj)
        (rowMax (masked (sums1 (feat1 x w) a) adj)))) (feat1 x w))
    (broadcastInDim S10000x64 ![] bcast_S_S10000x64 (constant S_ .f32 0x00000000#32))

/-- A second layer over hidden features. -/
def second (h : FVec Ideal S10000x64 .f32) (adj : FVec Ideal S10000x10000 .f32) (w : FVec Ideal S64x32 .f32)
    (a : FVec Ideal S64x1 .f32) : FVec Ideal S10000x32 .f32 :=
  Host.dotGeneral dot_S10000x10000_S10000x32_S10000x32_1_0_0_1_n_n none
    (share (expo (masked (sums2 (feat2 h w) a) adj)
        (rowMax (masked (sums2 (feat2 h w) a) adj)))) (feat2 h w)

/-! ## The pieces read at an entry -/

/-- The first layer's features are the matrix product. -/
theorem feat1_at (x : FVec Ideal S10000x128 .f32) (w : FVec Ideal S128x64 .f32) :
    mat (feat1 x w) = mm (mat x) (mat w) := by
  funext i k
  unfold mat mm
  pointwise [feat1]

/-- A second layer's features are the matrix product. -/
theorem feat2_at (h : FVec Ideal S10000x64 .f32) (w : FVec Ideal S64x32 .f32) :
    mat (feat2 h w) = mm (mat h) (mat w) := by
  funext i k
  unfold mat mm
  pointwise [feat2]

/-- A sum of attention terms of the first layer, at a pair of nodes. -/
theorem sums1_at (wh : FVec Ideal S10000x64 .f32) (a : FVec Ideal S128x1 .f32) (i j : Fin 10000) :
    mat (sums1 wh a) i j = mv (mat wh) (upper 64 (by decide) a) i + mv (mat wh) (lower 64 (by decide) a) j := by
  unfold mat mv upper lower
  pointwise [sums1]

/-- A sum of attention terms of a second layer, at a pair of nodes. -/
theorem sums2_at (wh : FVec Ideal S10000x32 .f32) (a : FVec Ideal S64x1 .f32) (i j : Fin 10000) :
    mat (sums2 wh a) i j = mv (mat wh) (upper 32 (by decide) a) i + mv (mat wh) (lower 32 (by decide) a) j := by
  unfold mat mv upper lower
  pointwise [sums2]

/-- A masked score at a pair of nodes. -/
theorem masked_at (e adj : FVec Ideal S10000x10000 .f32) (i j : Fin 10000) :
    mat (masked e adj) i j = if 0 < mat adj i j then leaky (mat e i j) else ⊥ := by
  rw [← negInf_eq]
  unfold mat leaky Gat.slope
  pointwise [masked]
  rfl

/-- A row's largest score. -/
theorem rowMax_at (s : FVec Ideal S10000x10000 .f32) (i : Fin 10000) : rowMax s (ix1 i) = top (mat s i) := by
  unfold top
  rw [← negInf_eq]
  unfold mat
  pointwise [rowMax]

/-- An exponential at a pair of nodes. -/
theorem expo_at (s : FVec Ideal S10000x10000 .f32) (r : FVec Ideal S10000 .f32) (i j : Fin 10000) :
    mat (expo s r) i j = Ideal.exp (mat s i j - r (ix1 i)) := by
  rw [← max_eq_right (a := (⊥ : EReal)) (b := r (ix1 i)) bot_le, ← negInf_eq]
  unfold mat
  pointwise [expo]

/-- A share at a pair of nodes. -/
theorem share_at (p : FVec Ideal S10000x10000 .f32) (i j : Fin 10000) :
    mat (share p) i j = Ideal.div (mat p i j) (∑ l, mat p i l) := by
  unfold mat
  pointwise [share]

/-! ## The layers -/

/-- The hidden features are the reference's layer of the model. -/
theorem hidden_at (x : FVec Ideal S10000x128 .f32) (adj : FVec Ideal S10000x10000 .f32) (w : FVec Ideal S128x64 .f32)
    (a : FVec Ideal S128x1 .f32) : mat (hidden x adj w a) = refHidden x adj w a := by
  funext i k
  have h : mat (hidden x adj w a) i k
      = max (∑ j, mat (share (expo (masked (sums1 (feat1 x w) a) adj)
        (rowMax (masked (sums1 (feat1 x w) a) adj)))) i j * mat (feat1 x w) j k) 0 := by
    unfold mat
    pointwise [hidden]
  rw [h]
  simp only [share_at, expo_at, rowMax_at, refHidden, relu, refLayer, softRow, weight, score, ← sums1_at, ← feat1_at, ← masked_at]

/-- A second layer is the reference's layer of the model. -/
theorem second_at (h : FVec Ideal S10000x64 .f32) (adj : FVec Ideal S10000x10000 .f32) (w : FVec Ideal S64x32 .f32)
    (a : FVec Ideal S64x1 .f32) (i : Fin 10000) (k : Fin 32) : mat (second h adj w a) i k
      = refLayer (mat adj) (mat h) (mat w) (upper 32 (by decide) a) (lower 32 (by decide) a) i k := by
  have e : mat (second h adj w a) i k
      = ∑ j, mat (share (expo (masked (sums2 (feat2 h w) a) adj)
        (rowMax (masked (sums2 (feat2 h w) a) adj)))) i j * mat (feat2 h w) j k := by
    unfold mat
    pointwise [second]
  rw [e]
  simp only [share_at, expo_at, rowMax_at, refLayer, softRow, weight, score, ← sums2_at, ← feat2_at, ← masked_at]

/-! ## The results -/

/-- The first result's term is the second layer over the hidden features. -/
theorem mu_term (x0 : FVec Ideal S10000x128 .f32) (x1 : FVec Ideal S10000x10000 .f32) (x2 : FVec Ideal S128x64 .f32)
    (x3 : FVec Ideal S128x1 .f32) (x4 : FVec Ideal S64x32 .f32) (x5 : FVec Ideal S64x1 .f32) :
    Read.val_main_v52 (F := Ideal) x0 x1 x2 x3 x4 x5 = second (hidden x0 x1 x2 x3) x1 x4 x5 := rfl

/-- The second result's term is the exponential of the second layer over the hidden features. -/
theorem sig_term (x0 : FVec Ideal S10000x128 .f32) (x1 : FVec Ideal S10000x10000 .f32) (x2 : FVec Ideal S128x64 .f32)
    (x3 : FVec Ideal S128x1 .f32) (x6 : FVec Ideal S64x32 .f32) (x7 : FVec Ideal S64x1 .f32) :
    Read.val_main_v79 (F := Ideal) x0 x1 x2 x3 x6 x7 = Host.exp (second (hidden x0 x1 x2 x3) x1 x6 x7) := rfl

/-- The first result at an entry. -/
theorem mu_at (x0 : FVec Ideal S10000x128 .f32) (x1 : FVec Ideal S10000x10000 .f32) (x2 : FVec Ideal S128x64 .f32)
    (x3 : FVec Ideal S128x1 .f32) (x4 : FVec Ideal S64x32 .f32) (x5 : FVec Ideal S64x1 .f32) (i : Fin 10000)
    (k : Fin 32) : mat (Read.val_main_v52 (F := Ideal) x0 x1 x2 x3 x4 x5) i k = refOut x0 x1 x2 x3 x4 x5 i k := by
  rw [mu_term, second_at, hidden_at]
  rfl

/-- The second result at an entry. -/
theorem sig_at (x0 : FVec Ideal S10000x128 .f32) (x1 : FVec Ideal S10000x10000 .f32) (x2 : FVec Ideal S128x64 .f32)
    (x3 : FVec Ideal S128x1 .f32) (x6 : FVec Ideal S64x32 .f32) (x7 : FVec Ideal S64x1 .f32) (i : Fin 10000)
    (k : Fin 32) :
    mat (Read.val_main_v79 (F := Ideal) x0 x1 x2 x3 x6 x7) i k = Ideal.exp (refOut x0 x1 x2 x3 x6 x7 i k) := by
  rw [sig_term]
  have e : mat (Host.exp (second (hidden x0 x1 x2 x3) x1 x6 x7)) i k
      = Ideal.exp (mat (second (hidden x0 x1 x2 x3) x1 x6 x7) i k) := by
    unfold mat
    pointwise
  rw [e, second_at, hidden_at]
  rfl

end Cert.ReferenceIdeal.Value

end
-- ==== Proof.Equation.lean ====
/- The equation: on a graph and real arguments the kernel's two results are the reference's. -/
module

public import proofs.«01_k».proof.Proof.KernelValue
public import proofs.«01_k».proof.Proof.Reference

@[expose] public section

set_option maxRecDepth 16384

noncomputable section

namespace Cert.Proof

open Idealize.ShloMosaic Idealize.ShloMosaic.TcCoe Idealize.SL.Sem
open Cert.KernelIdeal Cert.KernelIdeal.Gen Cert.KernelIdeal.Value Cert.Gat
open Cert.ReferenceIdeal.Value (mu_at sig_at)
open Cert.ReferenceIdeal.Read (val_main_v52 val_main_v79)

/-- Two arrays of two axes are equal when they are equal as matrices. -/
theorem arr_ext {a b : ℕ} {v w : FVec Ideal ⟨2, ![a, b]⟩ .f32} (h : ∀ i k, mat v i k = mat w i k) : v = w := by
  funext y
  rw [eq_ix2 y]
  exact h (y 0) (y 1)

variable (m : (ℓ : Loc nD τ sig) → Buf (Elt Ideal) ℓ) (ρ : Dev nD → PrngReg) (c : Dev nD)

/-- The reference's first result of the kernel's arguments is what the kernel's first result array holds at the end. -/
theorem mu_eq (hg : Graph (mat (argAdj m c))) (h0 : RealA (argX m c)) (h2 : RealA (argW1 m c)) (h3 : RealA (argA1 m c))
    (h4 : RealA (argWmu m c)) (h5 : RealA (argAmu m c)) :
    val_main_v52 (F := Ideal) (argX m c) (argAdj m c) (argW1 m c) (argA1 m c) (argWmu m c) (argAmu m c)
      = (W7 m ρ c (Proc.devRef .tc main_v25_0) : FVec Ideal S10000x32 .f32) := by
  refine arr_ext fun i k => ?_
  rw [mu_value m ρ c, out_eq hg h0 h2 h3 h4 h5]
  exact mu_at _ _ _ _ _ _ i k

/-- The reference's second result of the kernel's arguments is what the kernel's second result array holds at the end. -/
theorem sig_eq (hg : Graph (mat (argAdj m c))) (h0 : RealA (argX m c)) (h2 : RealA (argW1 m c)) (h3 : RealA (argA1 m c))
    (h6 : RealA (argWsig m c)) (h7 : RealA (argAsig m c)) :
    val_main_v79 (F := Ideal) (argX m c) (argAdj m c) (argW1 m c) (argA1 m c) (argWsig m c) (argAsig m c)
      = (W7 m ρ c (Proc.devRef .tc main_v25_1) : FVec Ideal S10000x32 .f32) := by
  refine arr_ext fun i k => ?_
  rw [sig_value m ρ c, out_eq hg h0 h2 h3 h6 h7]
  exact sig_at _ _ _ _ _ _ i k

end Cert.Proof

end
-- ==== Proof.lean ====
/- The certificate of the two-layer graph attention encoder: `Cert.Claim` from its parts. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_graph
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.KernelRun
public import proofs.«01_k».proof.Proof.PreDecode
public import proofs.«01_k».proof.Proof.Equation
public import Idealize.ShloMosaic.Adequacy
public import Idealize.ShloMosaic.Init

@[expose] public section

noncomputable section

namespace Cert.Proof

open Idealize.ShloMosaic Idealize.SL.Sem Cert.Kernel

/-- From memories agreeing on the arguments and meeting the precondition, the ideal kernel and the ideal reference end
    with equal results and unchanged arguments. -/
theorem algebraic : Cert.algebraic_KernelIdeal_ReferenceIdeal_pre_graph := by
  intro m g m' g' hpre hargs
  refine ⟨fun c => Cert.KernelIdeal.Gen.W7 m g c (Proc.devRef .tc Cert.KernelIdeal.main_v25_0),
    fun c => Cert.KernelIdeal.Gen.W7 m g c (Proc.devRef .tc Cert.KernelIdeal.main_v25_1),
    Cert.KernelIdeal.Value.run m g, θ_run_mono (Cert.ReferenceIdeal.Value.run m' g') fun r h c => ?_⟩
  obtain ⟨e0, e1, e2, e3, e4, e5, e6, e7⟩ := hargs c
  obtain ⟨hg, h0, h2, h3, h4, h5, h6, h7⟩ := Cert.Pre_graph.Value.graph_real (hpre c)
  refine ⟨(h c).1.trans ?_, (h c).2.1.trans ?_, (h c).2.2⟩
  · rw [Cert.ReferenceIdeal.Read.val_main_v52_eq]
    rw [show StableHlo.launchContents m' c (Proc.devRef .tc Cert.ReferenceIdeal.main_arg0) = _ from e0,
      show StableHlo.launchContents m' c (Proc.devRef .tc Cert.ReferenceIdeal.main_arg1) = _ from e1,
      show StableHlo.launchContents m' c (Proc.devRef .tc Cert.ReferenceIdeal.main_arg2) = _ from e2,
      show StableHlo.launchContents m' c (Proc.devRef .tc Cert.ReferenceIdeal.main_arg3) = _ from e3,
      show StableHlo.launchContents m' c (Proc.devRef .tc Cert.ReferenceIdeal.main_arg4) = _ from e4,
      show StableHlo.launchContents m' c (Proc.devRef .tc Cert.ReferenceIdeal.main_arg5) = _ from e5]
    exact mu_eq m g c hg h0 h2 h3 h4 h5
  · rw [Cert.ReferenceIdeal.Read.val_main_v79_eq]
    rw [show StableHlo.launchContents m' c (Proc.devRef .tc Cert.ReferenceIdeal.main_arg0) = _ from e0,
      show StableHlo.launchContents m' c (Proc.devRef .tc Cert.ReferenceIdeal.main_arg1) = _ from e1,
      show StableHlo.launchContents m' c (Proc.devRef .tc Cert.ReferenceIdeal.main_arg2) = _ from e2,
      show StableHlo.launchContents m' c (Proc.devRef .tc Cert.ReferenceIdeal.main_arg3) = _ from e3,
      show StableHlo.launchContents m' c (Proc.devRef .tc Cert.ReferenceIdeal.main_arg6) = _ from e6,
      show StableHlo.launchContents m' c (Proc.devRef .tc Cert.ReferenceIdeal.main_arg7) = _ from e7]
    exact sig_eq m g c hg h0 h2 h3 h6 h7

/-- Everything the certificate claims. -/
theorem claim : Cert.Claim :=
  ⟨Cert.Kernel.Gen.facts, Cert.KernelIdeal.Gen.facts, Cert.ReferenceIdeal.Gen.facts, Cert.Pre_graph.Gen.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    algebraic⟩

end Cert.Proof

end
